-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_SiluIdeal (m : (ℓ : Loc Cert.SiluIdeal.nD Cert.SiluIdeal.τ Cert.SiluIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_within_clip_ReferenceIdeal [hPre_within_clip_ReferenceIdeal : Cert.Pre_within_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_clip_ReferenceIdeal [hReferenceIdeal : Cert.ReferenceIdeal.Facts] [hPre_within_clip_ReferenceIdeal : Cert.Pre_within_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_pre_within_clip_KernelIdeal [hKernelIdeal : Cert.KernelIdeal.Facts] [hReferenceIdeal : Cert.ReferenceIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hSiluIdeal : Cert.SiluIdeal.Facts) (hReferenceIdeal : Cert.ReferenceIdeal.Facts) (hPre_within_clip_KernelIdeal : Cert.Pre_within_clip_KernelIdeal.Facts) (hPre_within_clip_ReferenceIdeal : Cert.Pre_within_clip_ReferenceIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_SiluIdeal (hSiluIdeal := hSiluIdeal)
    ∧ quiescent_ReferenceIdeal (hReferenceIdeal := hReferenceIdeal)
    ∧ quiescent_ReferenceIdeal_pre_within_clip_ReferenceIdeal (hReferenceIdeal := hReferenceIdeal) (hPre_within_clip_ReferenceIdeal := hPre_within_clip_ReferenceIdeal)
    ∧ preserves_Kernel_KernelIdeal
    ∧ algebraic_KernelIdeal_SiluIdeal (hKernelIdeal := hKernelIdeal) (hSiluIdeal := hSiluIdeal)
    ∧ algebraic_KernelIdeal_ReferenceIdeal_pre_within_clip_KernelIdeal (hKernelIdeal := hKernelIdeal) (hReferenceIdeal := hReferenceIdeal) (hPre_within_clip_KernelIdeal := hPre_within_clip_KernelIdeal)
-- ==== Pre_within_clip_KernelIdeal.lean ====
abbrev S2048x512 : Shape := ⟨2, ![2048, 512]⟩
abbrev S2048x2048 : Shape := ⟨2, ![2048, 2048]⟩
abbrev S512x2048 : Shape := ⟨2, ![512, 2048]⟩
abbrev S_ : Shape := ⟨0, ![]⟩

class Facts : Prop where
  slices_S2048x2048_S512x2048_0_0 : S2048x2048.Slices ![0, 0] S512x2048
  bcast_S_S2048x2048 : S_.BroadcastsInDim S2048x2048 (![] : Fin 0 → Fin S2048x2048.rank)
  slices_S2048x2048_S512x2048_512_0 : S2048x2048.Slices ![512, 0] S512x2048
  slices_S2048x2048_S512x2048_1024_0 : S2048x2048.Slices ![1024, 0] S512x2048
  slices_S2048x2048_S512x2048_1536_0 : S2048x2048.Slices ![1536, 0] S512x2048
  dot_S2048x512_S512x2048_S2048x2048_1_0_0_1_n_n_wf : DotDims.WF S2048x512 S512x2048 S2048x2048 [1] [0] [0] [1] [] []

variable [Facts]

def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf
def fn {F : FTy → Type} [FloatOps F] (main_arg0 : FVec F S2048x512 .bf16) (main_arg1 : FVec F S2048x2048 .bf16) : IVec S2048x2048 1 × IVec S2048x2048 1 × IVec S2048x2048 1 × IVec S2048x2048 1 :=
  let main_v0 : FVec F S512x2048 .bf16 := (extractStridedSlice S512x2048 ![0, 0] · slices_S2048x2048_S512x2048_0_0) main_arg1
  let main_v1 : FVec F S2048x2048 .f32 := (fun l r => Host.dotGeneral dot_S2048x512_S512x2048_S2048x2048_1_0_0_1_n_n none l r) main_arg0 main_v0
  let main_v2 : FVec F S2048x2048 .f32 := Host.absf main_v1
  let main_cst : FVec F S_ .f32 := constant S_ .f32 0x41700000#32
  let main_v3 : FVec F S2048x2048 .f32 := broadcastInDim S2048x2048 ![] bcast_S_S2048x2048 main_cst
  let main_v4 : IVec S2048x2048 1 := cmpf .ole main_v2 main_v3
  let main_v5 : FVec F S512x2048 .bf16 := (extractStridedSlice S512x2048 ![512, 0] · slices_S2048x2048_S512x2048_512_0) main_arg1
  let main_v6 : FVec F S2048x2048 .f32 := (fun l r => Host.dotGeneral dot_S2048x512_S512x2048_S2048x2048_1_0_0_1_n_n none l r) main_arg0 main_v5
  let main_v7 : FVec F S2048x2048 .f32 := Host.absf main_v6
  let main_cst_0 : FVec F S_ .f32 := constant S_ .f32 0x41700000#32
  let main_v8 : FVec F S2048x2048 .f32 := broadcastInDim S2048x2048 ![] bcast_S_S2048x2048 main_cst_0
  let main_v9 : IVec S2048x2048 1 := cmpf .ole main_v7 main_v8
  let main_v10 : FVec F S512x2048 .bf16 := (extractStridedSlice S512x2048 ![1024, 0] · slices_S2048x2048_S512x2048_1024_0) main_arg1
  let main_v11 : FVec F S2048x2048 .f32 := (fun l r => Host.dotGeneral dot_S2048x512_S512x2048_S2048x2048_1_0_0_1_n_n none l r) main_arg0 main_v10
  let main_v12 : FVec F S2048x2048 .f32 := Host.absf main_v11
  let main_cst_1 : FVec F S_ .f32 := constant S_ .f32 0x41700000#32
  let main_v13 : FVec F S2048x2048 .f32 := broadcastInDim S2048x2048 ![] bcast_S_S2048x2048 main_cst_1
  let main_v14 : IVec S2048x2048 1 := cmpf .ole main_v12 main_v13
  let main_v15 : FVec F S512x2048 .bf16 := (extractStridedSlice S512x2048 ![1536, 0] · slices_S2048x2048_S512x2048_1536_0) main_arg1
  let main_v16 : FVec F S2048x2048 .f32 := (fun l r => Host.dotGeneral dot_S2048x512_S512x2048_S2048x2048_1_0_0_1_n_n none l r) main_arg0 main_v15
  let main_v17 : FVec F S2048x2048 .f32 := Host.absf main_v16
  let main_cst_2 : FVec F S_ .f32 := constant S_ .f32 0x41700000#32
  let main_v18 : FVec F S2048x2048 .f32 := broadcastInDim S2048x2048 ![] bcast_S_S2048x2048 main_cst_2
  let main_v19 : IVec S2048x2048 1 := cmpf .ole main_v17 main_v18
  (main_v4, main_v9, main_v14, main_v19)
-- ==== Pre_within_clip_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .bf16) (main_arg1 : FVec F S2048x2048 .bf16) : IVec S2048x2048 1 :=
  let main_v0 : FVec F S2048x2048 .f32 := (fun l r => Host.dotGeneral dot_S2048x2048_S2048x2048_S2048x2048_1_0_0_1_n_n none l r) main_arg0 main_arg1
  let main_v1 : FVec F S2048x2048 .f32 := Host.absf main_v0
  let main_cst : FVec F S_ .f32 := constant S_ .f32 0x42700000#32
  let main_v2 : FVec F S2048x2048 .f32 := broadcastInDim S2048x2048 ![] bcast_S_S2048x2048 main_cst
  let main_v3 : IVec S2048x2048 1 := cmpf .ole main_v1 main_v2
  main_v3
-- ==== Kernel.lean ====
abbrev S2048x512 : Shape := ⟨2, ![2048, 512]⟩
abbrev S2048x2048 : Shape := ⟨2, ![2048, 2048]⟩
abbrev S512x2048 : Shape := ⟨2, ![512, 2048]⟩
abbrev S3x512x512 : Shape := ⟨3, ![3, 512, 512]⟩
abbrev S3 : Shape := ⟨1, ![3]⟩
abbrev S_ : Shape := ⟨0, ![]⟩
abbrev S1 : Shape := ⟨1, ![1]⟩
abbrev S1x512x512 : Shape := ⟨3, ![1, 512, 512]⟩
abbrev S512x512 : Shape := ⟨2, ![512, 512]⟩

abbrev nBuf : Space → Nat
  | .hbm => 3
  | .vmem => 4
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S512x2048, .f32⟩
  | .local _ .vmem, ⟨0, _⟩ => ⟨S2048x512, .bf16⟩
  | .local _ .vmem, ⟨1, _⟩ => ⟨S2048x2048, .bf16⟩
  | .local _ .vmem, ⟨2, _⟩ => ⟨S512x2048, .f32⟩
  | .local _ .vmem, ⟨3, _⟩ => ⟨S3x512x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_28 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c512_i32 : BitVec 32 := 512#32
  let v54 : BitVec 32 := Scalar.muli v53 c512_i32
  let c0_i32_42 : BitVec 32 := 0#32
  ![v54.toNat, 0]
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_38 : BitVec 32 := 1#32
  let v55 : BitVec 32 := Scalar.muli v53 c1_i32_38
  let v56 : BitVec 32 := Scalar.addi c0_i32_39 v55
  v56.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_43 : BitVec 32 := 3#32
  let v64 : BitVec 32 := Scalar.addi v2 c3_i32_43
  let c4_i32_44 : BitVec 32 := 4#32
  let c0_i32_45 : BitVec 32 := 0#32
  let v65 : BitVec 1 := Scalar.cmpi .eq c4_i32_44 c0_i32_45
  let c1_i32_46 : BitVec 32 := 1#32
  let v66 : BitVec 32 := Scalar.select v65 c1_i32_46 c4_i32_44
  let v67 : BitVec 32 := Scalar.remsi v64 v66
  let c0_i32_48 : BitVec 32 := 0#32
  let v69 : BitVec 1 := Scalar.cmpi .slt v67 c0_i32_48
  let c0_i32_49 : BitVec 32 := 0#32
  let v70 : BitVec 1 := Scalar.cmpi .slt v66 c0_i32_49
  let v71 : BitVec 1 := Scalar.xori v69 v70
  let c0_i32_47 : BitVec 32 := 0#32
  let v68 : BitVec 1 := Scalar.cmpi .ne v67 c0_i32_47
  let v72 : BitVec 1 := Scalar.andi v71 v68
  let v73 : BitVec 32 := Scalar.addi v67 v66
  let v74 : BitVec 32 := Scalar.select v72 v73 v67
  let c1_i32_54 : BitVec 32 := 1#32
  let v76 : BitVec 32 := Scalar.muli v74 c1_i32_54
  let v77 : BitVec 32 := Scalar.addi c0_i32_55 v76
  v77.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_59 : BitVec 32 := 2#32
  let v85 : BitVec 32 := Scalar.addi v2 c2_i32_59
  let c4_i32_60 : BitVec 32 := 4#32
  let c0_i32_61 : BitVec 32 := 0#32
  let v86 : BitVec 1 := Scalar.cmpi .eq c4_i32_60 c0_i32_61
  let c1_i32_62 : BitVec 32 := 1#32
  let v87 : BitVec 32 := Scalar.select v86 c1_i32_62 c4_i32_60
  let v88 : BitVec 32 := Scalar.remsi v85 v87
  let c0_i32_64 : BitVec 32 := 0#32
  let v90 : BitVec 1 := Scalar.cmpi .slt v88 c0_i32_64
  let c0_i32_65 : BitVec 32 := 0#32
  let v91 : BitVec 1 := Scalar.cmpi .slt v87 c0_i32_65
  let v92 : BitVec 1 := Scalar.xori v90 v91
  let c0_i32_63 : BitVec 32 := 0#32
  let v89 : BitVec 1 := Scalar.cmpi .ne v88 c0_i32_63
  let v93 : BitVec 1 := Scalar.andi v92 v89
  let v94 : BitVec 32 := Scalar.addi v88 v87
  let v95 : BitVec 32 := Scalar.select v93 v94 v88
  let c1_i32_70 : BitVec 32 := 1#32
  let v97 : BitVec 32 := Scalar.muli v95 c1_i32_70
  let v98 : BitVec 32 := Scalar.addi c0_i32_71 v97
  v98.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_75 : BitVec 32 := 512#32
  let v106 : BitVec 32 := Scalar.muli v2 c512_i32_75
  let v107 : Index := Scalar.indexCast v106
  let c0 : Index := 0#32
  ![v107.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_76 : BitVec 32 := 512#32
  let v110 : BitVec 32 := Scalar.muli v2 c512_i32_76
  let v111 : Index := Scalar.indexCast v110
  let c0_77 : Index := 0#32
  ![v111.toNat, 0]
def k0_off4 (d0 : Dev nD) (c1_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v122 : BitVec 32 := Scalar.subi v2 c1_i32_86
  let c4_i32_87 : BitVec 32 := 4#32
  let c0_i32_88 : BitVec 32 := 0#32
  let v123 : BitVec 1 := Scalar.cmpi .eq c4_i32_87 c0_i32_88
  let c1_i32_89 : BitVec 32 := 1#32
  let v124 : BitVec 32 := Scalar.select v123 c1_i32_89 c4_i32_87
  let v125 : BitVec 32 := Scalar.remsi v122 v124
  let c0_i32_91 : BitVec 32 := 0#32
  let v127 : BitVec 1 := Scalar.cmpi .slt v125 c0_i32_91
  let c0_i32_92 : BitVec 32 := 0#32
  let v128 : BitVec 1 := Scalar.cmpi .slt v124 c0_i32_92
  let v129 : BitVec 1 := Scalar.xori v127 v128
  let c0_i32_90 : BitVec 32 := 0#32
  let v126 : BitVec 1 := Scalar.cmpi .ne v125 c0_i32_90
  let v130 : BitVec 1 := Scalar.andi v129 v126
  let v131 : BitVec 32 := Scalar.addi v125 v124
  let v132 : BitVec 32 := Scalar.select v130 v131 v125
  let c512_i32_93 : BitVec 32 := 512#32
  let v133 : BitVec 32 := Scalar.muli v132 c512_i32_93
  let v134 : Index := Scalar.indexCast v133
  let c0_94 : Index := 0#32
  ![v134.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== SiluIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.KernelIdeal.Protocol.lean ====
/-
# The exchange of the fused all-to-all: cells, payloads, schedule, debts

Four devices. Distance index `k : Fin 3` stands for the distance `k + 1`: device `c` sends the row block `nx k c` of its
`x` to slot `k` of the device `nx k c`, and slot `k` of `c` is filled by the device `fr k c`.

Seven semaphores per device: the barrier, three send and three receive semaphores. The barrier cell of `e` has three
duties of one unit; duty `k` is paid by `fr k e`, which hands `e` its slot `2 - k` — the slot that `e`'s own
transfer of distance index `2 - k` writes, since `(k + 1) + (2 - k + 1) = 4` — and the mark that its receive cell `2 - k`
is at round 0. A send cell has one duty (the source rows come back), a receive cell one duty (the slot filled).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the staging pipeline's rounds (duties `Unit`) beside the exchange's (duties `Fin 3`) -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Who sends to whom -/

set_option backward.proofsInPublic true in
/-- The device at distance `k + 1` after `c`. -/
def nx (k : Fin 3) (c : Dev nD) : Dev nD := ⟨(c.val + (k.val + 1)) % 4, Nat.mod_lt _ (by decide)⟩
set_option backward.proofsInPublic true in
/-- The device at distance `k + 1` before `c`. -/
def fr (k : Fin 3) (c : Dev nD) : Dev nD := ⟨(c.val + (3 - k.val)) % 4, Nat.mod_lt _ (by decide)⟩
/-- The distance index that brings `nx k c` back to `c`. -/
def bk (k : Fin 3) : Fin 3 := ⟨2 - k.val, by omega⟩

theorem fr_nx : ∀ (k : Fin 3) (c : Dev nD), fr k (nx k c) = c := by decide
theorem nx_fr : ∀ (k : Fin 3) (c : Dev nD), nx k (fr k c) = c := by decide
theorem nx_bk : ∀ (k : Fin 3) (c : Dev nD), nx (bk k) c = fr k c := by decide
theorem nx_ne : ∀ (k : Fin 3) (c : Dev nD), nx k c ≠ c := by decide
theorem bk_bk : ∀ k : Fin 3, bk (bk k) = k := by decide

/-- Turning every device by the distance `k + 1`. -/
def turn (k : Fin 3) : Dev nD ≃ Dev nD := ⟨nx k, fr k, fr_nx k, nx_fr k⟩

theorem dev1_eq (c : Dev nD) : (⟨k0_dev1 c, k0_dev1_lt c⟩ : Dev nD) = nx 0 c := by revert c; decide +kernel
theorem dev2_eq (c : Dev nD) : (⟨k0_dev2 c, k0_dev2_lt c⟩ : Dev nD) = nx 1 c := by revert c; decide +kernel
theorem dev3_eq (c : Dev nD) : (⟨k0_dev3 c, k0_dev3_lt c⟩ : Dev nD) = nx 2 c := by revert c; decide +kernel
theorem dev4_eq (c : Dev nD) : (⟨k0_dev4 c, k0_dev4_lt c⟩ : Dev nD) = nx 0 c := by revert c; decide +kernel
theorem dev5_eq (c : Dev nD) : (⟨k0_dev5 c, k0_dev5_lt c⟩ : Dev nD) = nx 2 c := by revert c; decide +kernel
theorem dev6_eq (c : Dev nD) : (⟨k0_dev6 c, k0_dev6_lt c⟩ : Dev nD) = nx 1 c := by revert c; decide +kernel

/-- The rows a transfer reads: the block of the device it is sent to. -/
theorem off1_eq : ∀ (c : Dev nD) (k : Fin 3), k0_off1 c (BitVec.ofNat 32 (1 + k.val)) = ![512 * (nx k c).val, 0] := by decide +kernel
/-- The rows of `w` a received block is multiplied by: those of the device it came from. -/
theorem off4_eq : ∀ (c : Dev nD) (k : Fin 3), k0_off4 c (BitVec.ofNat 32 (1 + k.val)) = ![512 * (fr k c).val, 0] := by decide +kernel

/-! ## Memrefs and semaphores -/

abbrev xM : Memref sig .tc .vmem S2048x512 .bf16 := Memref.whole cc0_stg0_0
abbrev wM : Memref sig .tc .vmem S2048x2048 .bf16 := Memref.whole cc0_stg1_0
abbrev oM : Memref sig .tc .vmem S512x2048 .f32 := Memref.whole cc0_stg2_0
abbrev rM : Memref sig .tc .vmem S3x512x512 .bf16 := Memref.whole cc0_scratch0

theorem row_inb : ∀ (b : Dev nD) (a : Fin 2), (![512 * b.val, 0] : Fin 2 → Nat) a + S512x512.size a ≤ S2048x512.size a := by decide
theorem slot_inb : ∀ (k : Fin 3) (a : Fin 3), (![k.val, 0, 0] : Fin 3 → Nat) a + S1x512x512.size a ≤ S3x512x512.size a := by decide
theorem sem_inb : ∀ (k : Fin 3) (a : Fin 1), (![k.val] : Fin 1 → Nat) a + S1.size a ≤ S3.size a := by decide

/-- Row block `b` of an `x` staging buffer. -/
abbrev rowR (b : Dev nD) : Rect S2048x512 := Rect.unit (s := S2048x512) ![512 * b.val, 0] S512x512.size (row_inb b)
/-- Slot `k` of the landing buffer. -/
abbrev slotR (k : Fin 3) : Rect S3x512x512 := Rect.unit (s := S3x512x512) ![k.val, 0, 0] S1x512x512.size (slot_inb k)

/-- The source of transfer `k` on device `c`, as the kernel slices it. -/
abbrev srcM (k : Fin 3) (c : Dev nD) : Memref sig .tc .vmem S512x512 .bf16 :=
  xM.slice (Rect.unit (s := S2048x512) (k0_off1 c (BitVec.ofNat 32 (1 + k.val))) S512x512.size (k0_off1_inb c k)) (fun _ => rfl)
/-- The destination of transfer `k`, as the kernel slices and squeezes it. -/
abbrev dstM (k : Fin 3) : Memref sig .tc .vmem S512x512 .bf16 :=
  (rM.slice (slotR k) (fun _ => rfl)).squeeze S512x512 squeezes_S1x512x512_S512x512

abbrev barS : Sem sig := (SemArray.scalar (sig.barrier 0 rfl) : Sems sig S_).sem
abbrev sendS (k : Fin 3) : DmaSem sig :=
  ((cc0_scratch1.slice (Rect.unit (s := S3) ![k.val] S1.size (sem_inb k)) : DmaSems sig S1).squeeze S_ squeezes_S1_S_).sem
abbrev recvS (k : Fin 3) : DmaSem sig :=
  ((cc0_scratch2.slice (Rect.unit (s := S3) ![k.val] S1.size (sem_inb k)) : DmaSems sig S1).squeeze S_ squeezes_S1_S_).sem

theorem sendS_inj : ∀ k j : Fin 3, (SemLoc.dma (sendS k) : SemLoc sig) = .dma (sendS j) → k = j := by decide
theorem recvS_inj : ∀ k j : Fin 3, (SemLoc.dma (recvS k) : SemLoc sig) = .dma (recvS j) → k = j := by decide
theorem send_ne_recv : ∀ k j : Fin 3, (SemLoc.dma (sendS k) : SemLoc sig) ≠ .dma (recvS j) := by decide
theorem send_ne_bar (k : Fin 3) : (SemLoc.dma (sendS k) : SemLoc sig) ≠ .reg barS := fun h => by cases h
theorem recv_ne_bar (k : Fin 3) : (SemLoc.dma (recvS k) : SemLoc sig) ≠ .reg barS := fun h => by cases h

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- The credit of one transferred block. -/
def N : ℕ := (dstM 0).view.dmaCredit
theorem N_dst (k : Fin 3) : (dstM k).view.dmaCredit = N := by
  unfold N; fin_cases k <;> rfl
theorem N_src (k : Fin 3) (c : Dev nD) : (srcM k c).view.dmaCredit = N := by
  unfold N; rfl
theorem N_pos : 0 < N := View.dmaCredit_pos _ (by decide)

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

theorem row_lt (c : Dev nD) (i : Fin 512) : 512 * c.val + i.val < 2048 := by
  have h := c.isLt; have h' := i.isLt; simp only [nD] at h; omega

/-- What the landing buffer of `c` holds when all three transfers into it are done: slot `k` the row block `c` of the `x`
    of the device `fr k c`. -/
def comm (c : Dev nD) : (cc0_scratch0 : Ref sig .tc).ty.Contents (Elt F) :=
  fun i : S3x512x512.Idx => xstg m ρ (fr (i 0) c)
    (fun a : Fin 2 => match a with
      | ⟨0, _⟩ => ⟨512 * c.val + (i 1).val, row_lt c (i 1)⟩
      | ⟨1, _⟩ => i 2 : S2048x512.Idx)

/-! ## Points-tos of row blocks and slots -/

/-- The elements of row block `b`. -/
abbrev rowSet (b : Dev nD) : Finset ((cc0_stg0_0 : Ref sig .tc).ty.Idx) := (rowR b).set
/-- The elements of slot `k`. -/
abbrev slotSet (k : Fin 3) : Finset ((cc0_scratch0 : Ref sig .tc).ty.Idx) := (slotR k).set

theorem src_set (k : Fin 3) (c : Dev nD) : (srcM k c).view.set = rowSet (nx k c) := by
  show ((View.whole cc0_stg0_0).slice _).set = _
  rw [View.set_slice_whole]
  simp only [off1_eq]
theorem dst_set (k : Fin 3) : (dstM k).view.set = slotSet k := by
  show (((View.whole cc0_scratch0).slice (slotR k)).reshape _ _).set = _
  rw [View.set_reshape, View.set_slice_whole]

/-- Row block `b` of device `c`'s `x`, as fetched. -/
def rowPts (b c : Dev nD) : sProp 𝕄 := ((c : Thread nD τ).loc cc0_stg0_0) ↦[rowSet b]{fullShare} xstg m ρ c
/-- Slot `k` of device `c` at contents `f`. -/
def slotPts (k : Fin 3) (c : Dev nD) (f : Buf (Elt F) ((c : Thread nD τ).loc cc0_scratch0)) : sProp 𝕄 :=
  ((c : Thread nD τ).loc cc0_scratch0) ↦[slotSet k]{fullShare} f

omit [FloatOps F] in
instance slotPts_storable (k : Fin 3) (c : Dev nD) (f) : BI.Storable (upEmb : UEmb _ 𝕄) (slotPts (F := F) k c f) := by unfold slotPts; infer_instance
omit [FloatOps F] in
instance rowPts_storable (b c : Dev nD) : BI.Storable (upEmb : UEmb _ 𝕄) (rowPts (F := F) m ρ b c) := by unfold rowPts; infer_instance

theorem row_disjoint (b b' : Dev nD) (h : b ≠ b') : Disjoint (rowSet b) (rowSet b') :=
  Ring.lead_disjoint (s := S2048x512) (NB := 4) (0 : Fin 2) 512 (fun b => ![512 * b.val, 0]) S512x512.size (fun b => row_inb b)
    (fun _ => rfl) rfl b b' h
theorem row_cover : Finset.univ.biUnion rowSet = Finset.univ :=
  Ring.lead_cover (s := S2048x512) (NB := 4) (0 : Fin 2) 512 (fun b => ![512 * b.val, 0]) S512x512.size (fun b => row_inb b)
    (fun _ => rfl) (fun _ a ha => by fin_cases a; · exact absurd rfl ha
                                     · rfl) rfl
    (fun a ha => by fin_cases a; · exact absurd rfl ha
                    · rfl) rfl
theorem slot_disjoint (k k' : Fin 3) (h : k ≠ k') : Disjoint (slotSet k) (slotSet k') :=
  Ring.lead_disjoint (s := S3x512x512) (NB := 3) (0 : Fin 3) 1 (fun k => ![k.val, 0, 0]) S1x512x512.size (fun k => slot_inb k)
    (fun k => (Nat.one_mul _).symm) rfl k k' h
theorem slot_cover : Finset.univ.biUnion slotSet = Finset.univ :=
  Ring.lead_cover (s := S3x512x512) (NB := 3) (0 : Fin 3) 1 (fun k => ![k.val, 0, 0]) S1x512x512.size (fun k => slot_inb k)
    (fun k => (Nat.one_mul _).symm) (fun _ a ha => by fin_cases a; · exact absurd rfl ha
                                                      · rfl
                                                      · rfl) rfl
    (fun a ha => by fin_cases a; · exact absurd rfl ha
                    · rfl
                    · rfl) rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- The landing buffer whole is its three slots. -/
theorem slots_eq (c : Dev nD) (f : Buf (Elt F) ((c : Thread nD τ).loc cc0_scratch0)) :
    (((c : Thread nD τ).loc cc0_scratch0) ↦{fullShare} f : sProp 𝕄) = iprop(slotPts 0 c f ∗ slotPts 1 c f ∗ slotPts 2 c f) := by
  rw [← bigSep_fin3 (fun k => slotPts k c f)]
  exact Ring.pointsTo_blocks (ℓ := (c : Thread nD τ).loc cc0_scratch0) slotSet slot_disjoint slot_cover f

omit [FloatOps F] in
/-- The `x` staging buffer whole is the rows sent and the own rows. -/
theorem rows_eq (c : Dev nD) :
    (((c : Thread nD τ).loc cc0_stg0_0) ↦{fullShare} xstg m ρ c : sProp 𝕄)
      = iprop(rowPts m ρ c c ∗ rowPts m ρ (nx 0 c) c ∗ rowPts m ρ (nx 1 c) c ∗ rowPts m ρ (nx 2 c) c) := by
  refine (Ring.pointsTo_blocks (ℓ := (c : Thread nD τ).loc cc0_stg0_0) rowSet row_disjoint row_cover (xstg m ρ c)).trans ?_
  refine (bigSep_univ_eq_bigSepL [c, nx 0 c, nx 1 c, nx 2 c] (by revert c; decide) (by revert c; decide)
    (fun b => (((c : Thread nD τ).loc cc0_stg0_0) ↦[rowSet b]{fullShare} xstg m ρ c : sProp 𝕄))).trans ?_
  rw [bigSepL_cons_cons, bigSepL_cons_cons, bigSepL_cons_cons, bigSepL_singleton]
  rfl

omit [FloatOps F] in
theorem rowPts_src (k : Fin 3) (c : Dev nD) :
    (rowPts m ρ (nx k c) c : sProp 𝕄) = ((srcM k c).view.loc (c : Thread nD τ) ↦[(srcM k c).view.set]{fullShare} xstg m ρ c) := by
  rw [src_set]; rfl
omit [FloatOps F] in
theorem slotPts_dst (k : Fin 3) (c : Dev nD) (f : Buf (Elt F) ((c : Thread nD τ).loc cc0_scratch0)) :
    (slotPts k c f : sProp 𝕄) = ((dstM k).view.loc (c : Thread nD τ) ↦[(dstM k).view.set]{fullShare} f) := by
  rw [dst_set]; rfl

/-! ## The schedule -/

/-- What duty `k` of `c`'s barrier cell hands over. -/
def barPay (k : Fin 3) (c : Dev nD) : sProp 𝕄 :=
  iprop((∃ f, slotPts (bk k) (fr k c) f) ∗ reached EX (recvCell (bk k) (fr k c)) 0)
def recvPay (k : Fin 3) (c : Dev nD) : sProp 𝕄 := slotPts k c (comm m ρ c)
def sendPay (k : Fin 3) (c : Dev nD) : sProp 𝕄 := rowPts m ρ (nx k c) c

abbrev IsBar (g : GSem nD τ sig) : Prop := g.1.2 = .tc ∧ g.2 = .reg barS
abbrev IsSend (g : GSem nD τ sig) (k : Fin 3) : Prop := g.1.2 = .tc ∧ g.2 = .dma (sendS k)
abbrev IsRecv (g : GSem nD τ sig) (k : Fin 3) : Prop := g.1.2 = .tc ∧ g.2 = .dma (recvS k)
abbrev IsXfer (g : GSem nD τ sig) : Prop := ∃ k : Fin 3, IsSend g k ∨ IsRecv g k

def xRd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay d g.1.1
    else if g.2 = .dma (recvS 0) then recvPay m ρ 0 g.1.1
    else if g.2 = .dma (recvS 1) then recvPay m ρ 1 g.1.1
    else if g.2 = .dma (recvS 2) then recvPay m ρ 2 g.1.1
    else if g.2 = .dma (sendS 0) then sendPay m ρ 0 g.1.1
    else if g.2 = .dma (sendS 1) then sendPay m ρ 1 g.1.1
    else if g.2 = .dma (sendS 2) then sendPay m ρ 2 g.1.1
    else iprop(emp)
  amount_pos g _ _ _ := by
    by_cases h : g.2 = .reg barS
    · rw [if_pos h]; exact Nat.one_pos
    · rw [if_neg h]; exact N_pos

omit [FloatOps F] in
instance xRd_payload_storable (g : GSem nD τ sig) (r : ℕ) (d : Fin 3) :
    BI.Storable (upEmb : UEmb _ 𝕄) ((xRd (F := F) m ρ).payload g r d) := by
  dsimp only [xRd]
  unfold barPay recvPay sendPay
  (repeat' split) <;> infer_instance

section Sched
variable (k : Fin 3) (c : Dev nD)

omit [FloatOps F] in
theorem duties_bar : (xRd (F := F) m ρ).duties (barCell c) 0 = Finset.univ := by dsimp only [xRd]; exact if_pos ⟨rfl, rfl, rfl⟩
omit [FloatOps F] in
theorem duties_send : (xRd (F := F) m ρ).duties (sendCell k c) 0 = {0} := by
  dsimp only [xRd]; rw [if_neg (fun h => send_ne_bar k h.2.2)]; exact if_pos ⟨rfl, k, .inl ⟨rfl, rfl⟩⟩
omit [FloatOps F] in
theorem duties_recv : (xRd (F := F) m ρ).duties (recvCell k c) 0 = {0} := by
  dsimp only [xRd]; rw [if_neg (fun h => recv_ne_bar k h.2.2)]; exact if_pos ⟨rfl, k, .inr ⟨rfl, rfl⟩⟩
omit [FloatOps F] in
theorem duties_later (g : GSem nD τ sig) : ∀ r, 1 ≤ r → (xRd (F := F) m ρ).duties g r = ∅ :=
  fun r hr => by dsimp only [xRd]; rw [if_neg fun h => by omega, if_neg fun h => by omega]

omit [FloatOps F] in
theorem amount_bar (d : Fin 3) : (xRd (F := F) m ρ).amount (barCell c) 0 d = 1 := by dsimp only [xRd]; exact if_pos rfl
omit [FloatOps F] in
theorem amount_send (d : Fin 3) : (xRd (F := F) m ρ).amount (sendCell k c) 0 d = N := by dsimp only [xRd]; exact if_neg (send_ne_bar k)
omit [FloatOps F] in
theorem amount_recv (d : Fin 3) : (xRd (F := F) m ρ).amount (recvCell k c) 0 d = N := by dsimp only [xRd]; exact if_neg (recv_ne_bar k)

omit [FloatOps F] in
theorem expect_bar : (xRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
omit [FloatOps F] in
theorem expect_send : (xRd (F := F) m ρ).expect (sendCell k c) 0 = N := by
  unfold Schedule.expect Schedule.amountOf; rw [duties_send, Finset.sum_singleton, amount_send]
omit [FloatOps F] in
theorem expect_recv : (xRd (F := F) m ρ).expect (recvCell k c) 0 = N := by
  unfold Schedule.expect Schedule.amountOf; rw [duties_recv, Finset.sum_singleton, amount_recv]

omit [FloatOps F] in
theorem payload_bar (d : Fin 3) : (xRd (F := F) m ρ).payload (barCell c) 0 d = barPay d c := by dsimp only [xRd]; rw [if_pos rfl]
omit [FloatOps F] in
theorem payload_recv (d : Fin 3) : (xRd (F := F) m ρ).payload (recvCell k c) 0 d = recvPay m ρ k c := by
  have h : ∀ j, j ≠ k → ¬ ((SemLoc.dma (recvS k) : SemLoc sig) = .dma (recvS j)) := fun j hj e => hj (recvS_inj k j e).symm
  dsimp only [xRd]; rw [if_neg (recv_ne_bar k)]
  fin_cases k
  · exact if_pos rfl
  · exact (if_neg (h 0 (by decide))).trans (if_pos rfl)
  · exact (if_neg (h 0 (by decide))).trans ((if_neg (h 1 (by decide))).trans (if_pos rfl))
omit [FloatOps F] in
theorem payload_send (d : Fin 3) : (xRd (F := F) m ρ).payload (sendCell k c) 0 d = sendPay m ρ k c := by
  have h : ∀ j, j ≠ k → ¬ ((SemLoc.dma (sendS k) : SemLoc sig) = .dma (sendS j)) := fun j hj e => hj (sendS_inj k j e).symm
  dsimp only [xRd]; rw [if_neg (send_ne_bar k), if_neg (send_ne_recv k 0), if_neg (send_ne_recv k 1), if_neg (send_ne_recv k 2)]
  fin_cases k
  · exact if_pos rfl
  · exact (if_neg (h 0 (by decide))).trans (if_pos rfl)
  · exact (if_neg (h 0 (by decide))).trans ((if_neg (h 1 (by decide))).trans (if_pos rfl))

omit [FloatOps F] in
/-- The whole barrier round: the three slots this device's transfers write. -/
theorem rest_bar : bigSep ((xRd (F := F) m ρ).duties (barCell c) 0 \ ∅) (fun d => (xRd (F := F) m ρ).payload (barCell c) 0 d)
    = iprop(barPay 0 c ∗ barPay 1 c ∗ barPay 2 c) := by
  rw [Finset.sdiff_empty, duties_bar, bigSep_fin3, payload_bar, payload_bar, payload_bar]
omit [FloatOps F] in
theorem rest_send : bigSep ((xRd (F := F) m ρ).duties (sendCell k c) 0 \ ∅) (fun d => (xRd (F := F) m ρ).payload (sendCell k c) 0 d) = sendPay m ρ k c := by
  rw [Finset.sdiff_empty, duties_send, bigSep_singleton, payload_send]
omit [FloatOps F] in
theorem rest_recv : bigSep ((xRd (F := F) m ρ).duties (recvCell k c) 0 \ ∅) (fun d => (xRd (F := F) m ρ).payload (recvCell k c) 0 d) = recvPay m ρ k c := by
  rw [Finset.sdiff_empty, duties_recv, bigSep_singleton, payload_recv]

end Sched

/-! ## What each core owes at launch; the levels -/

/-- What a device owes between its transfers, the last one listed first. -/
def R₂ (c : Dev nD) : CellTallies nD τ sig Unit := tallyAt (recvCell 1 (nx 1 c)) () N
def R₁ (c : Dev nD) : CellTallies nD τ sig Unit := R₂ c + tallyAt (recvCell 2 (nx 2 c)) () N
def R₀ (c : Dev nD) : CellTallies nD τ sig Unit := R₁ c + tallyAt (recvCell 0 (nx 0 c)) () N
/-- What it owes between its signals. -/
def B₂ (c : Dev nD) : CellTallies nD τ sig Unit := R₀ c + tallyAt (barCell (nx 2 c)) () 1
def B₁ (c : Dev nD) : CellTallies nD τ sig Unit := B₂ c + tallyAt (barCell (nx 1 c)) () 1
/-- At launch: three transfers and three signals. -/
def O₀ (c : Dev nD) : CellTallies nD τ sig Unit := B₁ c + tallyAt (barCell (nx 0 c)) () 1

def L (g : GSem nD τ sig) : Finset Unit := if g.1.2 = .tc then {()} else ∅
/-- Barrier cells at 1, receive cells at 2, everything else at 0. -/
def lv (g : GSem nD τ sig) (_ : Unit) : ℕ := if g.2 = .reg barS then 1 else if ∃ k : Fin 3, g.2 = .dma (recvS k) then 2 else 0

theorem lv_bar (c : Dev nD) (u : Unit) : lv (barCell c) u = 1 := if_pos rfl
theorem lv_recv (k : Fin 3) (c : Dev nD) (u : Unit) : lv (recvCell k c) u = 2 := by
  unfold lv; rw [if_neg (recv_ne_bar k)]; exact if_pos ⟨k, rfl⟩

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem add_pos' {O O' : CellTallies nD τ sig Unit} {g : GSem nD τ sig} {u : Unit} (h : 0 < (O + O') g u) : 0 < O g u ∨ 0 < O' g u := by
  rw [Pi.add_apply, Finsupp.add_apply] at h; omega

theorem R₀_pos {c : Dev nD} {g : GSem nD τ sig} {u : Unit} (h : 0 < R₀ c g u) : ∃ k, g = recvCell k (nx k c) := by
  unfold R₀ R₁ R₂ at h
  rcases add_pos' h with h | h
  · rcases add_pos' h with h | h
    · exact ⟨1, tally_pos h⟩
    · exact ⟨2, tally_pos h⟩
  · exact ⟨0, tally_pos h⟩

theorem O₀_pos {c : Dev nD} {g : GSem nD τ sig} {u : Unit} (h : 0 < O₀ c g u) :
    (∃ k, g = recvCell k (nx k c)) ∨ ∃ k, g = barCell (nx k c) := by
  unfold O₀ B₁ B₂ at h
  rcases add_pos' h with h | h
  · rcases add_pos' h with h | h
    · rcases add_pos' h with h | h
      · exact .inl (R₀_pos h)
      · exact .inr ⟨2, tally_pos h⟩
    · exact .inr ⟨1, tally_pos h⟩
  · exact .inr ⟨0, tally_pos h⟩

omit [FloatOps F] in
/-- A wait on a staging cell is allowed whatever the device owes: all of it lies above level 0. -/
theorem mayWait_stage (c : Dev nD) (q : DmaSem sig) (hq : ∀ k, SemLoc.dma q ≠ .dma (recvS k)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by
        rw [Finset.mem_singleton.mp hp]; dsimp only [lv]
        rw [if_neg (fun h => by cases h), if_neg (fun ⟨k, h⟩ => hq k h)])
      (fun g u hg => by
        rcases O₀_pos hg with ⟨k, rfl⟩ | ⟨k, rfl⟩
        · rw [lv_recv]; decide
        · rw [lv_bar]; decide)
  · rw [MayWait_zero]; iintro -; iempintro

omit [FloatOps F] in
/-- At its barrier wait a device owes receive credits only, which lie above the barrier. -/
theorem mayWait_bar (c : Dev nD) : (levAts L lv : sProp 𝕄) ⊢ MayWait (c : Thread nD τ) (.reg barS) () (R₀ c) :=
  MayOwe.of_cut (L := L) (lev := lv) 1 (fun p hp => by rw [Finset.mem_singleton.mp hp, L_tc]; exact Finset.mem_singleton_self _)
    (fun g u hg => by obtain ⟨k, rfl⟩ := R₀_pos hg; exact Finset.mem_singleton_self _)
    (fun p hp => by rw [Finset.mem_singleton.mp hp]; exact (lv_bar c ()).le)
    (fun g u hg => by obtain ⟨k, rfl⟩ := R₀_pos hg; rw [lv_recv]; decide)

/-! ## The names of the cells, and what a device starts from -/

/-- A device's seven semaphores: the barrier, the send semaphores, the receive semaphores. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)
/-- The places of the send and of the receive semaphore `k` among the seven. -/
def sIx (k : Fin 3) : Fin 7 := ⟨k.val + 1, by omega⟩
def rIx (k : Fin 3) : Fin 7 := ⟨k.val + 4, by omega⟩
theorem csem_s (k : Fin 3) : csem (sIx k) = .dma (sendS k) := by fin_cases k <;> rfl
theorem csem_r (k : Fin 3) : csem (rIx k) = .dma (recvS k) := by fin_cases k <;> rfl

/-- Every cell's invariant, under the names `K`, and that every cell is at round 0. -/
def records (K : Dev nD × Fin 7 → ℕ) : sProp 𝕄 :=
  iprop((bigSep Finset.univ fun ck : Dev nD × Fin 7 => cellInv EX (xRd m ρ) (K ck) (kcell ck))
    ∗ bigSep Finset.univ fun ck : Dev nD × Fin 7 => reached EX (kcell ck) 0)

omit [FloatOps F] in
instance records_persistent (K : Dev nD × Fin 7 → ℕ) : BI.Persistent (records m ρ K) := by unfold records; infer_instance

omit [FloatOps F] in
theorem inv_at (K : Dev nD × Fin 7 → ℕ) (ck : Dev nD × Fin 7) :
    (bigSep Finset.univ fun ck : Dev nD × Fin 7 => (cellInv EX (xRd m ρ) (K ck) (kcell ck) : sProp 𝕄)) ⊢ cellInv EX (xRd m ρ) (K ck) (kcell ck) :=
  bigSep_elim (Finset.mem_univ ck)
omit [FloatOps F] in
theorem reached_at (ck : Dev nD × Fin 7) :
    (bigSep Finset.univ fun ck : Dev nD × Fin 7 => (reached EX (kcell ck) 0 : sProp 𝕄)) ⊢ reached EX (kcell ck) 0 :=
  bigSep_elim (Finset.mem_univ ck)

section Records
variable (K : Dev nD × Fin 7 → ℕ) (k : Fin 3) (c : Dev nD)

omit [FloatOps F] in
theorem inv_bar : records m ρ K ⊢ (cellInv EX (xRd m ρ) (K (c, 0)) (barCell c) : sProp 𝕄) := by
  unfold records; iintro ⟨H, -⟩
  iapply (inv_at m ρ K (c, 0)); iexact H
omit [FloatOps F] in
theorem inv_send : records m ρ K ⊢ (cellInv EX (xRd m ρ) (K (c, sIx k)) (sendCell k c) : sProp 𝕄) := by
  rw [show sendCell k c = kcell (c, sIx k) by rw [kcell, csem_s]]
  unfold records; iintro ⟨H, -⟩
  iapply (inv_at m ρ K (c, sIx k)); iexact H
omit [FloatOps F] in
theorem inv_recv : records m ρ K ⊢ (cellInv EX (xRd m ρ) (K (c, rIx k)) (recvCell k c) : sProp 𝕄) := by
  rw [show recvCell k c = kcell (c, rIx k) by rw [kcell, csem_r]]
  unfold records; iintro ⟨H, -⟩
  iapply (inv_at m ρ K (c, rIx k)); iexact H
omit [FloatOps F] in
theorem at_bar : records m ρ K ⊢ (reached EX (barCell c) 0 : sProp 𝕄) := by
  unfold records; iintro ⟨-, H⟩
  iapply (reached_at (F := F) (c, 0)); iexact H
omit [FloatOps F] in
theorem at_send : records m ρ K ⊢ (reached EX (sendCell k c) 0 : sProp 𝕄) := by
  rw [show sendCell k c = kcell (c, sIx k) by rw [kcell, csem_s]]
  unfold records; iintro ⟨-, H⟩
  iapply (reached_at (F := F) (c, sIx k)); iexact H
omit [FloatOps F] in
theorem at_recv : records m ρ K ⊢ (reached EX (recvCell k c) 0 : sProp 𝕄) := by
  rw [show recvCell k c = kcell (c, rIx k) by rw [kcell, csem_r]]
  unfold records; iintro ⟨-, H⟩
  iapply (reached_at (F := F) (c, rIx k)); iexact H

end Records

/-- The positions of a device at its seven cells. -/
def places (c : Dev nD) : sProp 𝕄 :=
  iprop(atPos EX (barCell c) 0 ∅ 0
    ∗ (atPos EX (sendCell 0 c) 0 ∅ 0 ∗ atPos EX (sendCell 1 c) 0 ∅ 0 ∗ atPos EX (sendCell 2 c) 0 ∅ 0)
    ∗ (atPos EX (recvCell 0 c) 0 ∅ 0 ∗ atPos EX (recvCell 1 c) 0 ∅ 0 ∗ atPos EX (recvCell 2 c) 0 ∅ 0))

/-- The tokens of the duties a device pays. -/
def payToks (c : Dev nD) : sProp 𝕄 :=
  iprop((dutyTok EX (barCell (nx 0 c)) 0 0 ∗ dutyTok EX (barCell (nx 1 c)) 0 1 ∗ dutyTok EX (barCell (nx 2 c)) 0 2)
    ∗ (dutyTok EX (sendCell 0 c) 0 0 ∗ dutyTok EX (sendCell 1 c) 0 0 ∗ dutyTok EX (sendCell 2 c) 0 0)
    ∗ (dutyTok EX (recvCell 0 (nx 0 c)) 0 0 ∗ dutyTok EX (recvCell 1 (nx 1 c)) 0 0 ∗ dutyTok EX (recvCell 2 (nx 2 c)) 0 0))

/-- A device's ghost state at the start. -/
def ghost (K : Dev nD × Fin 7 → ℕ) (c : Dev nD) : sProp 𝕄 := iprop(records m ρ K ∗ places c ∗ payToks c)

/-- What the body of device `c` starts from: the ghost state, the credit of the waits others pay for, and the levels. -/
def start (c : Dev nD) : sProp 𝕄 :=
  iprop((∃ K, ghost m ρ K c)
    ∗ (cred (tallyAt (barCell c) () 3) ∗ cred (tallyAt (recvCell 0 c) () N) ∗ cred (tallyAt (recvCell 1 c) () N) ∗ cred (tallyAt (recvCell 2 c) () N))
    ∗ levAts L lv)

end Cert.KernelIdeal.Exchange

end
-- ==== Proof.KernelIdeal.Steps.lean ====
/-
# The exchange's steps: one lemma per kind of instruction

A signal hands the receiver of a transfer its slot, a transfer moves a row block into a slot, a wait takes a cell's payload,
a load reads rows or a slot. Each is stated once for every distance index.
-/
module

public import proofs.«01_k».proof.Proof.KernelIdeal.Protocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What a landed slot holds -/

theorem dst_emb (k : Fin 3) (j : S512x512.Idx) : (dstM k).view.emb j = (slotR k).emb (Fin.cons ⟨0, Nat.one_pos⟩ j) := by
  show (slotR k).emb (Shape.reshapeEquiv _ j) = _
  rw [Shape.reshapeEquiv_cons_one]

omit [FloatOps F] in
/-- A transfer of distance index `k` from `c` leaves slot `k` of its receiver as `comm` says. -/
theorem landed (k : Fin 3) (c : Dev nD) (f : Buf (Elt F) ((nx k c : Thread nD τ).loc cc0_scratch0)) :
    ∀ i ∈ (dstM k).view.set, (dstM k).view.write (Elt F) f ((srcM k c).view.read (Elt F) (xstg m ρ c)) Finset.univ i = comm m ρ (nx k c) i := by
  intro i hi
  obtain ⟨j, -, rfl⟩ := Finset.mem_map.mp hi
  rw [View.write_emb_of_mem _ _ (Finset.mem_univ j)]
  show xstg m ρ c ((srcM k c).view.emb j) = comm m ρ (nx k c) ((dstM k).view.emb j)
  rw [dst_emb]
  have h0 : ((slotR k).emb (Fin.cons ⟨0, Nat.one_pos⟩ j) : S3x512x512.Idx) 0 = k := Fin.ext (by show k.val + 1 * 0 = k.val; omega)
  have h1 : (((slotR k).emb (Fin.cons ⟨0, Nat.one_pos⟩ j) : S3x512x512.Idx) 1).val = (j 0).val := by show 0 + 1 * (j 0).val = _; omega
  have h2 : (((slotR k).emb (Fin.cons ⟨0, Nat.one_pos⟩ j) : S3x512x512.Idx) 2).val = (j 1).val := by show 0 + 1 * (j 1).val = _; omega
  unfold comm
  rw [h0, fr_nx]
  congr 1
  funext a
  match a with
  | ⟨0, _⟩ =>
    apply Fin.ext
    show k0_off1 c (BitVec.ofNat 32 (1 + k.val)) 0 + 1 * (j 0).val = 512 * (nx k c).val + (((slotR k).emb (Fin.cons ⟨0, Nat.one_pos⟩ j) : S3x512x512.Idx) 1).val
    rw [off1_eq, h1, Nat.one_mul]; rfl
  | ⟨1, _⟩ =>
    apply Fin.ext
    show k0_off1 c (BitVec.ofNat 32 (1 + k.val)) 1 + 1 * (j 1).val = (((slotR k).emb (Fin.cons ⟨0, Nat.one_pos⟩ j) : S3x512x512.Idx) 2).val
    rw [off1_eq, h2, Nat.one_mul]; exact Nat.zero_add _

/-! ## The instructions -/

section Steps

variable (K : Dev nD × Fin 7 → ℕ)

/-- The signal of distance index `k`: to the barrier of `nx k c`, with `c`'s own slot `bk k`. -/
theorem wp_hand (k : Fin 3) (c n : Dev nD) (hn : n = nx k c) (f : Buf (Elt F) ((c : Thread nD τ).loc cc0_scratch0))
    (O₁ O : CellTallies nD τ sig Unit) (hO : O₁ = O + tallyAt (barCell (nx k c)) () 1) (W : Waits sig Unit)
    {α : Type} {Q : α → sProp 𝕄} {kk : PUnit → Prog (TpuEff nD τ sig (Elt F) Λ₀ .tc) α} :
    iprop(records m ρ K ∗ slotPts (bk k) c f ∗ owes (c : Thread nD τ) O₁ W ∗ dutyTok EX (barCell (nx k c)) 0 k)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal (Dev.tc n : Thread nD τ) barS (1#32 : BitVec 32).toInt) kk) Q) := by
  subst hn
  iintro ⟨#HR, Hs, HO, Ht⟩ Hk
  iapply (Rounds.wp_signal 𝒱₀ EX (xRd m ρ) (c : Thread nD τ) none (dst := (nx k c : Thread nD τ)) (κ := K (nx k c, 0))
      (d := k) (by rw [duties_bar]; exact Finset.mem_univ _) ((amount_bar m ρ (nx k c) k).trans (by decide)) () O hO)
    $$ [Hs HO Ht]
  · isplitr; · iapply (inv_bar m ρ K (nx k c)); iexact HR
    isplitl [HO]; · iexact HO
    isplitl [Ht]; · iexact Ht
    isplitl [Hs]
    · rw [payload_bar]; unfold barPay; rw [fr_nx]
      isplitl [Hs]; · iexists f; iexact Hs
      iapply (at_recv m ρ K (bk k) c); iexact HR
    · iapply (at_bar m ρ K (nx k c)); iexact HR
  iexact Hk

/-- The transfer of distance index `k`: the rows of `nx k c` into slot `k` of `nx k c`. -/
theorem wp_move (k : Fin 3) (c n : Dev nD) (hn : n = nx k c)
    {hsc : (dstM k : Memref sig (Dev.tc n : Thread nD τ).2.kind .vmem S512x512 .bf16).view.ref.isScScratch = false}
    {hsrc : (srcM k c).view.WordExact} {hdst : (dstM k).view.WordExact}
    {hsem : DmaTarget.Typed .vmem (.dma (recvS k)) (.remote (Dev.tc n : Thread nD τ) (dstM k) (.dma (sendS k)) hsc)}
    {α : Type} {Q : α → sProp 𝕄} {kk : PUnit → Prog (TpuEff nD τ sig (Elt F) Λ₀ .tc) α}
    (f : Buf (Elt F) ((nx k c : Thread nD τ).loc cc0_scratch0))
    (O₁ O : CellTallies nD τ sig Unit) (hO : O₁ = O + tallyAt (recvCell k (nx k c)) () N) (W : Waits sig Unit) :
    iprop(records m ρ K ∗ rowPts m ρ (nx k c) c ∗ slotPts k (nx k c) f ∗ owes (c : Thread nD τ) O₁ W
        ∗ dutyTok EX (sendCell k c) 0 0 ∗ dutyTok EX (recvCell k (nx k c)) 0 0)
      ⊢ iprop(((cred (tallyAt (sendCell k c) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (srcM k c) (.remote (Dev.tc n : Thread nD τ) (dstM k) (.dma (sendS k)) hsc) (.dma (recvS k)) hsrc hdst hsem) kk) Q) := by
  subst hn
  iintro ⟨#HR, Hx, Hs, HO, HtS, HtR⟩ Hk
  ihave Hx' := (Entails.of_eq (rowPts_src m ρ k c)) $$ Hx
  ihave Hs' := (Entails.of_eq (slotPts_dst k (nx k c) f)) $$ Hs
  iapply (Rounds.wp_send_pointsTo 𝒱₀ EX (xRd m ρ) (c : Thread nD τ) none (κ₁ := K (c, sIx k)) (κ₂ := K (nx k c, rIx k))
    (c' := (nx k c : Thread nD τ)) (src := srcM k c) (dst := dstM k) (sS := .dma (sendS k)) (sem := .dma (recvS k)) (r₁ := 0) (r₂ := 0) (d₁ := 0) (d₂ := 0) (fd := f)
    (by rw [duties_send]; exact Finset.mem_singleton_self _) (by rw [duties_recv]; exact Finset.mem_singleton_self _)
    () () N (N_dst k) (amount_send m ρ k c 0) (amount_recv m ρ k (nx k c) 0) O hO (W := W)
    (by rw [payload_send]; unfold sendPay; rw [rowPts_src])
    (by rw [payload_recv]; unfold recvPay; rw [slotPts_dst]
        exact Entails.of_eq (pointsTo_congr (landed m ρ k c f)))) $$ [Hx' Hs' HO HtS HtR]
  · isplitr; · iapply (inv_send m ρ K k c); iexact HR
    isplitr; · iapply (inv_recv m ρ K k (nx k c)); iexact HR
    isplitl [Hx']; · iexact Hx'
    isplitl [Hs']; · iexact Hs'
    isplitl [HO]; · iexact HO
    isplitl [HtS]; · iexact HtS
    isplitr; · iapply (at_send m ρ K k c); iexact HR
    isplitl [HtR]; · iexact HtR
    iapply (at_recv m ρ K k (nx k c)); iexact HR
  iexact Hk

/-- The wait on send cell `k`, owing nothing: the rows sent come back. -/
theorem wp_sent (k : Fin 3) (c : Dev nD) (W : Waits sig Unit) {src dst : Memref sig .tc .vmem S512x512 .bf16} {hsrc : src.view.WordExact} {hdst : dst.view.WordExact}
    (hN : dst.view.dmaCredit = N) {α : Type} {Q : α → sProp 𝕄} {kk : PUnit → Prog (TpuEff nD τ sig (Elt F) Λ₀ .tc) α} :
    iprop(records m ρ K ∗ cred (tallyAt (sendCell k c) () N) ∗ owes (c : Thread nD τ) 0 W ∗ atPos EX (sendCell k c) 0 ∅ 0)
      ⊢ iprop(((owes (c : Thread nD τ) 0 (insert (SemLoc.dma (sendS k), ()) W) ∗ atPos EX (sendCell k c) (0 + 1) ∅ 0 ∗ rowPts m ρ (nx k c) c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS k) src dst hsrc hdst) kk) Q) := by
  iintro ⟨#HR, Hc, HO, Hat⟩ Hk
  iapply (Rounds.wp_wait_rest_token 𝒱₀ EX (xRd m ρ) (c : Thread nD τ) none (κ := K (c, sIx k))
      (wpE_waitDma2_eq 𝒱₀ (c : Thread nD τ) none Set.univ) (Set.mem_univ _) () (O := 0) (W := W) (R := 0) (m := 0) (T := ∅)
      (by rw [Nat.zero_add, hN, expect_send])) $$ [Hc HO Hat]
  · isplitr; · iapply (inv_send m ρ K k c); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq ((rest_send m ρ k c).trans (by unfold sendPay; rfl))); iexact Hpay

/-- The wait on receive cell `k`, owing nothing: slot `k`, filled. -/
theorem wp_got (k : Fin 3) (c : Dev nD) (W : Waits sig Unit) {src dst : Memref sig .tc .vmem S512x512 .bf16} {hsrc : src.view.WordExact} {hdst : dst.view.WordExact}
    (hN : dst.view.dmaCredit = N) {α : Type} {Q : α → sProp 𝕄} {kk : PUnit → Prog (TpuEff nD τ sig (Elt F) Λ₀ .tc) α} :
    iprop(records m ρ K ∗ cred (tallyAt (recvCell k c) () N) ∗ owes (c : Thread nD τ) 0 W ∗ atPos EX (recvCell k c) 0 ∅ 0)
      ⊢ iprop(((owes (c : Thread nD τ) 0 (insert (SemLoc.dma (recvS k), ()) W) ∗ atPos EX (recvCell k c) (0 + 1) ∅ 0 ∗ slotPts k c (comm m ρ c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS k) src dst hsrc hdst) kk) Q) := by
  iintro ⟨#HR, Hc, HO, Hat⟩ Hk
  iapply (Rounds.wp_wait_rest_token 𝒱₀ EX (xRd m ρ) (c : Thread nD τ) none (κ := K (c, rIx k))
      (wpE_waitDma2_eq 𝒱₀ (c : Thread nD τ) none Set.univ) (Set.mem_univ _) () (O := 0) (W := W) (R := 0) (m := 0) (T := ∅)
      (by rw [Nat.zero_add, hN, expect_recv])) $$ [Hc HO Hat]
  · isplitr; · iapply (inv_recv m ρ K k c); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq ((rest_recv m ρ k c).trans (by unfold recvPay; rfl))); iexact Hpay

/-- The barrier wait for 3: the three slots this device's transfers write, each with the mark of its receive cell. -/
theorem wp_ready (c : Dev nD) (W : Waits sig Unit) {α : Type} {Q : α → sProp 𝕄} {kk : PUnit → Prog (TpuEff nD τ sig (Elt F) Λ₀ .tc) α} :
    iprop(records m ρ K ∗ cred (tallyAt (barCell c) () 3) ∗ owes (c : Thread nD τ) (R₀ c) W ∗ levAts L lv ∗ atPos EX (barCell c) 0 ∅ 0)
      ⊢ iprop(((owes (c : Thread nD τ) (R₀ c) (insert (SemLoc.reg barS, ()) W) ∗ atPos EX (barCell c) (0 + 1) ∅ 0
              ∗ (∃ f, slotPts 0 (nx 0 c) f) ∗ (∃ f, slotPts 1 (nx 1 c) f) ∗ (∃ f, slotPts 2 (nx 2 c) f))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS (3#32 : BitVec 32).toInt) kk) Q) := by
  iintro ⟨#HR, Hc, HO, #Hlev, Hat⟩ Hk
  iapply (Rounds.wp_wait_rest_token 𝒱₀ EX (xRd m ρ) (c : Thread nD τ) none (κ := K (c, 0))
      (wpE_semWait_eq 𝒱₀ (c : Thread nD τ) none Set.univ) (Set.mem_univ _) () (O := R₀ c) (W := W) (R := 0) (m := 0) (T := ∅)
      (by rw [expect_bar]; decide)) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  unfold barPay
  rw [← nx_bk 0 c, ← nx_bk 1 c, ← nx_bk 2 c, show bk 0 = 2 from rfl, show bk 1 = 1 from rfl, show bk 2 = 0 from rfl]
  icases Hp with ⟨⟨H2, -⟩, ⟨H1, -⟩, ⟨H0, -⟩⟩
  iapply Hk
  isplitl [HO]; · iexact HO
  isplitl [Hat]; · iexact Hat
  isplitl [H0]; · iexact H0
  isplitl [H1] <;> iassumption

omit [FloatOps F] in
theorem own_sub (c : Dev nD) : xM.view.setOn (Rect.unit (s := S2048x512) (k0_off2 c) S512x512.size (k0_off2_inb c)).toLoadRect.set ⊆ rowSet c := by
  rw [show (rowSet c) = xM.view.setOn (rowR c).toLoadRect.set from (View.set_slice_whole cc0_stg0_0 (rowR c)).symm.trans (View.set_slice (View.whole cc0_stg0_0) (rowR c))]
  simp only [k0_off2_eq]
  exact subset_rfl

omit [FloatOps F] in
theorem slot_sub (k : Fin 3) : rM.view.setOn (slotR k).toLoadRect.set ⊆ slotSet k := by
  exact ((View.set_slice (View.whole cc0_scratch0) (slotR k)).symm.trans (View.set_slice_whole cc0_scratch0 (slotR k))).le

/-- The own rows loaded. -/
theorem wp_load_own (c : Dev nD) {hl : (xM : Memref sig .tc .vmem S2048x512 .bf16).view.LoadsAt (Rect.unit (s := S2048x512) (k0_off2 c) S512x512.size (k0_off2_inb c)).toLoadRect}
    {α : Type} {Q : α → sProp 𝕄} {kk : Vec F S512x512 .bf16 → Prog (TpuEff nD τ sig (Elt F) Λ₀ .tc) α} :
    (rowPts m ρ c c : sProp 𝕄)
      ⊢ iprop((rowPts m ρ c c -∗ wp frame (wpE (defs₀ (F := F)) 𝒱₀ (c : Thread nD τ) none) Set.univ
            (kk (xM.view.readAt (Elt F) (Rect.unit (s := S2048x512) (k0_off2 c) S512x512.size (k0_off2_inb c)).toLoadRect (xstg m ρ c))) Q)
          -∗ wp frame (wpE (defs₀ (F := F)) 𝒱₀ (c : Thread nD τ) none) Set.univ
              (.op (.load xM (Rect.unit (s := S2048x512) (k0_off2 c) S512x512.size (k0_off2_inb c)).toLoadRect hl) kk) Q) := by
  unfold rowPts
  exact wp_load 𝒱₀ (c : Thread nD τ) none Set.univ (m := xM) (own_sub c)

/-- Slot `k` loaded. -/
theorem wp_load_slot (k : Fin 3) (c : Dev nD) (f : Buf (Elt F) ((c : Thread nD τ).loc cc0_scratch0)) {hl : (rM : Memref sig .tc .vmem S3x512x512 .bf16).view.LoadsAt (slotR k).toLoadRect}
    {α : Type} {Q : α → sProp 𝕄} {kk : Vec F S1x512x512 .bf16 → Prog (TpuEff nD τ sig (Elt F) Λ₀ .tc) α} :
    (slotPts k c f : sProp 𝕄)
      ⊢ iprop((slotPts k c f -∗ wp frame (wpE (defs₀ (F := F)) 𝒱₀ (c : Thread nD τ) none) Set.univ
            (kk (rM.view.readAt (Elt F) (slotR k).toLoadRect f)) Q)
          -∗ wp frame (wpE (defs₀ (F := F)) 𝒱₀ (c : Thread nD τ) none) Set.univ (.op (.load rM (slotR k).toLoadRect hl) kk) Q) := by
  unfold slotPts
  exact wp_load 𝒱₀ (c : Thread nD τ) none Set.univ (m := rM) (slot_sub k)

end Steps

end Cert.KernelIdeal.Exchange

end
-- ==== Proof.KernelIdeal.Body.lean ====
/-
# The kernel body on one device

From the ghost state, the credits and the three staging buffers to the result in the output's staging buffer: three signals,
the barrier wait, three transfers, the own product, then wait and product for each received block, the activation, the store,
and the three send waits.
-/
module

public import proofs.«01_k».proof.Proof.KernelIdeal.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body reads, and its result -/

/-- The own rows of `x`. -/
def ownX (c : Dev nD) : Vec F S512x512 .bf16 :=
  xM.view.readAt (Elt F) (Rect.unit (s := S2048x512) (k0_off2 c) S512x512.size (k0_off2_inb c)).toLoadRect (xstg m ρ c)
/-- The own rows of `w`. -/
def ownW (c : Dev nD) : Vec F S512x2048 .bf16 :=
  wM.view.readAt (Elt F) (Rect.unit (s := S2048x2048) (k0_off3 c) S512x2048.size (k0_off3_inb c)).toLoadRect (wstg m ρ c)
/-- The rows of `w` for the block received in slot `k`. -/
def farW (k : Fin 3) (c : Dev nD) : Vec F S512x2048 .bf16 :=
  wM.view.readAt (Elt F) (Rect.unit (s := S2048x2048) (k0_off4 c (BitVec.ofNat 32 (1 + k.val))) S512x2048.size (k0_off4_inb c k)).toLoadRect (wstg m ρ c)
/-- The block received in slot `k`. -/
def farX (k : Fin 3) (c : Dev nD) : Vec F S1x512x512 .bf16 := rM.view.readAt (Elt F) (slotR k).toLoadRect (comm m ρ c)

/-- The kernel's result on device `c`. -/
def outAt (c : Dev nD) : (cc0_stg2_0 : Ref sig .tc).ty.Contents (Elt F) :=
  k0_pay4 (k0_pay2 (k0_pay1 (ownX m ρ c) (ownW m ρ c)) (farW m ρ 0 c) (farX m ρ 0 c))
    (k0_pay3 (farW m ρ 2 c)) (farX m ρ 2 c) (farW m ρ 1 c) (farX m ρ 1 c)

/-! ## The proof data -/

def Φ₀ (c : Dev nD) : sProp 𝕄 := iprop(start m ρ c ∗ ∃ f : Buf (Elt F) ((c : Thread nD τ).loc cc0_scratch0), ((c : Thread nD τ).loc cc0_scratch0) ↦{fullShare} f)
/-- After the point: the landing buffer, and every semaphore of the device at zero. -/
def Φ₁ (c : Dev nD) : sProp 𝕄 :=
  iprop((((c : Thread nD τ).loc cc0_scratch0) ↦{fullShare} comm m ρ c)
    ∗ (semVal (sendCell 0 c) 0 ∗ semVal (sendCell 1 c) 0 ∗ semVal (sendCell 2 c) 0)
    ∗ (semVal (recvCell 0 c) 0 ∗ semVal (recvCell 1 c) 0 ∗ semVal (recvCell 2 c) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem hz : (![0, 0] : Fin 2 → Nat) = fun _ => 0 := funext fun a => by fin_cases a <;> rfl
omit [FloatOps F] in
theorem write_out (f w : (cc0_stg2_0 : Ref sig .tc).ty.Contents (Elt F)) :
    ((oM : Memref sig .tc .vmem S512x2048 .f32).access (Rect.unit (s := S512x2048) ![0, 0] S512x2048.size inb_S512x2048_S512x2048_0_0) : View sig .tc _ _ _).write (Elt F) f w Finset.univ = w :=
  Memref.write_access_unit_zero_univ (Elt F) cc0_stg2_0 hz _ f w

section Body

variable (K : Dev nD × Fin 7 → ℕ)

def bodyPre (c : Dev nD) : sProp 𝕄 :=
  iprop((ghost m ρ K c
      ∗ (cred (tallyAt (barCell c) () 3) ∗ cred (tallyAt (recvCell 0 c) () N) ∗ cred (tallyAt (recvCell 1 c) () N) ∗ cred (tallyAt (recvCell 2 c) () N))
      ∗ levAts L lv ∗ ∃ f : Buf (Elt F) ((c : Thread nD τ).loc cc0_scratch0), ((c : Thread nD τ).loc cc0_scratch0) ↦{fullShare} f)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ m ρ c ∗ (dats m ρ 0 c).owesAt () t0_0.succ
    ∗ stg c cc0_stg0_0 (xstg m ρ c) ∗ stg c cc0_stg1_0 (wstg m ρ c) ∗ stg c cc0_stg2_0 (outAt m ρ c))

set_option maxRecDepth 8000 in
set_option maxHeartbeats 3200000 in
/-- The body, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  unfold bodyPre ghost places payToks
  iintro ⟨⟨⟨⟨#HR, ⟨HaB, ⟨HaS0, HaS1, HaS2⟩, HaV0, HaV1, HaV2⟩, ⟨HtB0, HtB1, HtB2⟩, ⟨HtS0, HtS1, HtS2⟩, HtV0, HtV1, HtV2⟩,
      ⟨HcB, HcV0, HcV1, HcV2⟩, #Hlev, ⟨%f0, Hscr⟩⟩,
    Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx; subst hw
  unfold Dat.owesAt Pipeline.owesWithin
  icases Ho with ⟨%W, %hW, HO⟩
  rw [show (dats m ρ 0 c).owed t0_0.castSucc = O₀ c from rfl]
  -- the landing buffer in slots
  ihave Hs := (Entails.of_eq (slots_eq c f0)) $$ Hscr
  icases Hs with ⟨Hs0, Hs1, Hs2⟩
  -- the three signals
  iapply (wp_hand m ρ K 0 c _ (dev1_eq c) f0 (O₀ c) (B₁ c) rfl W) $$ [Hs2 HO HtB0]
  · isplitr; · iexact HR
    isplitl [Hs2]; · iexact Hs2
    isplitl [HO] <;> iassumption
  iintro HO
  iapply (wp_hand m ρ K 1 c _ (dev2_eq c) f0 (B₁ c) (B₂ c) rfl W) $$ [Hs1 HO HtB1]
  · isplitr; · iexact HR
    isplitl [Hs1]; · iexact Hs1
    isplitl [HO] <;> iassumption
  iintro HO
  iapply (wp_hand m ρ K 2 c _ (dev3_eq c) f0 (B₂ c) (R₀ c) rfl W) $$ [Hs0 HO HtB2]
  · isplitr; · iexact HR
    isplitl [Hs0]; · iexact Hs0
    isplitl [HO] <;> iassumption
  iintro HO
  -- the barrier wait
  iapply (wp_ready m ρ K c W) $$ [HcB HO HaB]
  · isplitr; · iexact HR
    isplitl [HcB]; · iexact HcB
    isplitl [HO]; · iexact HO
    isplitr; · iexact Hlev
    iexact HaB
  iintro ⟨HO, HaB, ⟨%e0, Hd0⟩, ⟨%e1, Hd1⟩, ⟨%e2, Hd2⟩⟩
  -- the three transfers
  ihave Hxs := (Entails.of_eq (rows_eq m ρ c)) $$ Hx
  icases Hxs with ⟨Hx, Hx0, Hx1, Hx2⟩
  iapply (wp_move m ρ K 0 c _ (dev4_eq c) e0 (R₀ c) (R₁ c) rfl _) $$ [Hx0 Hd0 HO HtS0 HtV0]
  · isplitr; · iexact HR
    isplitl [Hx0]; · iexact Hx0
    isplitl [Hd0]; · iexact Hd0
    isplitl [HO]; · iexact HO
    isplitl [HtS0] <;> iassumption
  iintro ⟨HcS0, HO⟩
  iapply (wp_move m ρ K 2 c _ (dev5_eq c) e2 (R₁ c) (R₂ c) rfl _) $$ [Hx2 Hd2 HO HtS2 HtV2]
  · isplitr; · iexact HR
    isplitl [Hx2]; · iexact Hx2
    isplitl [Hd2]; · iexact Hd2
    isplitl [HO]; · iexact HO
    isplitl [HtS2] <;> iassumption
  iintro ⟨HcS2, HO⟩
  iapply (wp_move m ρ K 1 c _ (dev6_eq c) e1 (R₂ c) 0 (by unfold R₂; rw [zero_add]) _) $$ [Hx1 Hd1 HO HtS1 HtV1]
  · isplitr; · iexact HR
    isplitl [Hx1]; · iexact Hx1
    isplitl [Hd1]; · iexact Hd1
    isplitl [HO]; · iexact HO
    isplitl [HtS1] <;> iassumption
  iintro ⟨HcS1, HO⟩
  -- the own product's operands
  iapply (wp_load_own m ρ c) $$ Hx; iintro Hx
  iapply (wp_load 𝒱₀ (c : Thread nD τ) none Set.univ (m := wM) (Finset.subset_univ _)) $$ Hw; iintro Hw
  -- slot 0
  iapply (wp_got m ρ K 0 c _ (N_dst 0)) $$ [HcV0 HO HaV0]
  · isplitr; · iexact HR
    isplitl [HcV0]; · iexact HcV0
    isplitl [HO] <;> iassumption
  iintro ⟨HO, HaV0, Hs0⟩
  iapply (wp_load 𝒱₀ (c : Thread nD τ) none Set.univ (m := wM) (Finset.subset_univ _)) $$ Hw; iintro Hw
  iapply (wp_load_slot 0 c _) $$ Hs0; iintro Hs0
  -- slot 2
  iapply (wp_got m ρ K 2 c _ (N_dst 2)) $$ [HcV2 HO HaV2]
  · isplitr; · iexact HR
    isplitl [HcV2]; · iexact HcV2
    isplitl [HO] <;> iassumption
  iintro ⟨HO, HaV2, Hs2⟩
  iapply (wp_load 𝒱₀ (c : Thread nD τ) none Set.univ (m := wM) (Finset.subset_univ _)) $$ Hw; iintro Hw
  iapply (wp_load_slot 2 c _) $$ Hs2; iintro Hs2
  -- slot 1
  iapply (wp_got m ρ K 1 c _ (N_dst 1)) $$ [HcV1 HO HaV1]
  · isplitr; · iexact HR
    isplitl [HcV1]; · iexact HcV1
    isplitl [HO] <;> iassumption
  iintro ⟨HO, HaV1, Hs1⟩
  iapply (wp_load 𝒱₀ (c : Thread nD τ) none Set.univ (m := wM) (Finset.subset_univ _)) $$ Hw; iintro Hw
  iapply (wp_load_slot 1 c _) $$ Hs1; iintro Hs1
  -- the result
  iapply (wp_load 𝒱₀ (c : Thread nD τ) none Set.univ (m := oM) (Finset.subset_univ _)) $$ Hout; iintro Hout
  iapply (wp_store 𝒱₀ (c : Thread nD τ) none Set.univ (m := oM) (r := Rect.unit (s := S512x2048) ![0, 0] S512x2048.size inb_S512x2048_S512x2048_0_0) (Mk := Finset.univ) (Finset.subset_univ _)) $$ Hout; iintro Hout
  rw [write_out]
  -- the send waits
  iapply (wp_sent m ρ K 0 c _ (N_src 0 c)) $$ [HcS0 HO HaS0]
  · isplitr; · iexact HR
    isplitl [HcS0]; · iexact HcS0
    isplitl [HO] <;> iassumption
  iintro ⟨HO, HaS0, Hx0⟩
  iapply (wp_sent m ρ K 2 c _ (N_src 2 c)) $$ [HcS2 HO HaS2]
  · isplitr; · iexact HR
    isplitl [HcS2]; · iexact HcS2
    isplitl [HO] <;> iassumption
  iintro ⟨HO, HaS2, Hx2⟩
  iapply (wp_sent m ρ K 1 c _ (N_src 1 c)) $$ [HcS1 HO HaS1]
  · isplitr; · iexact HR
    isplitl [HcS1]; · iexact HcS1
    isplitl [HO] <;> iassumption
  iintro ⟨HO, HaS1, Hx1⟩
  -- every cell closes
  imod (Rounds.cell_close EX (xRd m ρ) (Set.mem_univ (K (c, sIx 0))) (fun h => h) (R := 0 + 1) (duties_later m ρ (sendCell 0 c))) $$ [HaS0] with HzS0
  · isplitr; · iapply (inv_send m ρ K 0 c); iexact HR
    iexact HaS0
  imod (Rounds.cell_close EX (xRd m ρ) (Set.mem_univ (K (c, sIx 1))) (fun h => h) (R := 0 + 1) (duties_later m ρ (sendCell 1 c))) $$ [HaS1] with HzS1
  · isplitr; · iapply (inv_send m ρ K 1 c); iexact HR
    iexact HaS1
  imod (Rounds.cell_close EX (xRd m ρ) (Set.mem_univ (K (c, sIx 2))) (fun h => h) (R := 0 + 1) (duties_later m ρ (sendCell 2 c))) $$ [HaS2] with HzS2
  · isplitr; · iapply (inv_send m ρ K 2 c); iexact HR
    iexact HaS2
  imod (Rounds.cell_close EX (xRd m ρ) (Set.mem_univ (K (c, rIx 0))) (fun h => h) (R := 0 + 1) (duties_later m ρ (recvCell 0 c))) $$ [HaV0] with HzV0
  · isplitr; · iapply (inv_recv m ρ K 0 c); iexact HR
    iexact HaV0
  imod (Rounds.cell_close EX (xRd m ρ) (Set.mem_univ (K (c, rIx 1))) (fun h => h) (R := 0 + 1) (duties_later m ρ (recvCell 1 c))) $$ [HaV1] with HzV1
  · isplitr; · iapply (inv_recv m ρ K 1 c); iexact HR
    iexact HaV1
  imod (Rounds.cell_close EX (xRd m ρ) (Set.mem_univ (K (c, rIx 2))) (fun h => h) (R := 0 + 1) (duties_later m ρ (recvCell 2 c))) $$ [HaV2] with HzV2
  · isplitr; · iapply (inv_recv m ρ K 2 c); iexact HR
    iexact HaV2
  imod (Rounds.cell_close EX (xRd m ρ) (Set.mem_univ (K (c, 0))) (fun h => h) (R := 0 + 1) (duties_later m ρ (barCell c))) $$ [HaB] with HzB
  · isplitr; · iapply (inv_bar m ρ K c); iexact HR
    iexact HaB
  rw [wp_ret]; imodintro
  iapply Hk
  unfold bodyPost Φ₁ Dat.owesAt Pipeline.owesWithin
  rw [show (dats m ρ 0 c).owed t0_0.succ = 0 from rfl]
  isplitl [Hs0 Hs1 Hs2 HzS0 HzS1 HzS2 HzV0 HzV1 HzV2 HzB]
  · isplitl [Hs0 Hs1 Hs2]
    · iapply (Entails.of_eq (slots_eq c (comm m ρ c)).symm)
      isplitl [Hs0]; · iexact Hs0
      isplitl [Hs1] <;> iassumption
    isplitl [HzS0 HzS1 HzS2]
    · isplitl [HzS0]; · iexact HzS0
      isplitl [HzS1] <;> iassumption
    isplitl [HzV0 HzV1 HzV2]
    · isplitl [HzV0]; · iexact HzV0
      isplitl [HzV1] <;> iassumption
    iexact HzB
  isplitl [HO]
  · iexists _
    isplitr; swap; · iexact HO
    ipureintro; exact fun _ _ => Or.inl trivial
  isplitl [Hx Hx0 Hx1 Hx2]
  · iexists _; isplitr; · (ipureintro; rfl)
    iapply (Entails.of_eq (rows_eq m ρ c).symm)
    isplitl [Hx]; · iexact Hx
    isplitl [Hx0]; · iexact Hx0
    isplitl [Hx1] <;> iassumption
  isplitl [Hw]
  · iexists _; isplitr; · (ipureintro; rfl)
    iexact Hw
  iexists _; isplitr; swap; · iexact Hout
  ipureintro; rfl

set_option maxRecDepth 4000 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => bodyPost m ρ c)
  unfold bodyPre' Φ₀ start
  iintro ⟨⟨⟨⟨%K, Hg⟩, Hc, Hl⟩, Hscr⟩, Ho, Hx, Hw, Hout⟩
  iapply (sound_body m ρ K c fun _ => bodyPost m ρ c)
  unfold bodyPre
  isplitr []
  · isplitl [Hg Hc Hl Hscr]
    · isplitl [Hg]; · iexact Hg
      isplitl [Hc]; · iexact Hc
      isplitl [Hl] <;> iassumption
    isplitl [Ho]; · iexact Ho
    isplitl [Hx]; · iexact Hx
    isplitl [Hw] <;> iassumption
  · iintro H; iexact H

end Body

end Cert.KernelIdeal.Exchange

end
-- ==== Proof.KernelIdeal.Run.lean ====
/-
# The launch: the cells allocated on every device at once, and the program run

The launch deals each device the ghost state of its own cells; the tokens go to the devices that pay with them; the credits
each device holds match what the others owe it. The run ends with the result arrays at `outAt`, the arguments as they were
and every semaphore at zero.
-/
module

public import proofs.«01_k».proof.Proof.KernelIdeal.Body
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores: all but the barrier. -/
abbrev osem : Fin 6 → SemLoc sig := fun
  | 0 => .dma (sendS 0) | 1 => .dma (sendS 1) | 2 => .dma (sendS 2)
  | 3 => .dma (recvS 0) | 4 => .dma (recvS 1) | 5 => .dma (recvS 2)

theorem ownSemFacts : Pipeline.OwnSemFacts cfg0.spec osem := by decide

theorem share_eq (c : Dev nD) (w : Fin cfg0.W) : (dats m ρ 0 c).share w = fullShare := by unfold Dat.share; split <;> rfl

theorem csem_inj : ∀ j j' : Fin 7, csem j = csem j' → j = j' := by decide

theorem kcell_injective : Function.Injective (kcell : Dev nD × Fin 7 → GSem nD τ sig) := by
  rintro ⟨c, k⟩ ⟨c', k'⟩ h
  have h1 : c = c' := congrArg (fun g : GSem nD τ sig => g.1.1) h
  subst h1
  have h2 : k = k' := csem_inj k k' (congrArg Prod.snd h)
  subst h2; rfl

def xCells : Finset (GSem nD τ sig) := Finset.univ.map ⟨kcell, kcell_injective⟩

/-- The nine duties of a device's cells. -/
abbrev tsem : Fin 9 → SemLoc sig × Fin 3 := fun
  | 0 => (.reg barS, 0) | 1 => (.reg barS, 1) | 2 => (.reg barS, 2)
  | 3 => (.dma (sendS 0), 0) | 4 => (.dma (sendS 1), 0) | 5 => (.dma (sendS 2), 0)
  | 6 => (.dma (recvS 0), 0) | 7 => (.dma (recvS 1), 0) | 8 => (.dma (recvS 2), 0)
theorem tsem_inj : ∀ j j' : Fin 9, tsem j = tsem j' → j = j' := by decide

abbrev tokOf (cj : Dev nD × Fin 9) : GSem nD τ sig × ℕ × Fin 3 := (((cj.1 : Thread nD τ), (tsem cj.2).1), 0, (tsem cj.2).2)
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  subst h1
  have h2 : j = j' := tsem_inj j j' (Prod.ext (congrArg (fun x : GSem nD τ sig × ℕ × Fin 3 => x.1.2) h) (congrArg (fun x : GSem nD τ sig × ℕ × Fin 3 => x.2.2) h))
  subst h2; rfl
def xToks : Finset (GSem nD τ sig × ℕ × Fin 3) := Finset.univ.map ⟨tokOf, tokOf_injective⟩

def u₀ : UU := (initOf (Pipeline.cells cfgs cellOf_inj) (Pipeline.launchToks cfgs cellOf_inj), initOf xCells xToks)

/-- The tokens of a device's own cells. -/
def toks (c : Dev nD) : sProp 𝕄 :=
  iprop((dutyTok EX (barCell c) 0 0 ∗ dutyTok EX (barCell c) 0 1 ∗ dutyTok EX (barCell c) 0 2)
    ∗ (dutyTok EX (sendCell 0 c) 0 0 ∗ dutyTok EX (sendCell 1 c) 0 0 ∗ dutyTok EX (sendCell 2 c) 0 0)
    ∗ (dutyTok EX (recvCell 0 c) 0 0 ∗ dutyTok EX (recvCell 1 c) 0 0 ∗ dutyTok EX (recvCell 2 c) 0 0))

/-- What the launch deals a device. -/
def G (c : Dev nD) : sProp 𝕄 :=
  iprop((bigSep Finset.univ fun k : Fin 7 => roundState EX (xRd m ρ) (kcell (c, k)) 0)
    ∗ (bigSep Finset.univ fun k : Fin 7 => iprop(atPos EX (kcell (c, k)) 0 ∅ 0 ∗ reached EX (kcell (c, k)) 0)) ∗ toks c)
/-- What the global step makes of it. -/
def G' (c : Dev nD) : sProp 𝕄 := iprop(∃ K, ghost m ρ K c)

omit [FloatOps F] in
theorem bigSep_seven (Φ : Fin 7 → sProp 𝕄) :
    bigSep Finset.univ Φ = iprop(Φ 0 ∗ (Φ 1 ∗ Φ 2 ∗ Φ 3) ∗ (Φ 4 ∗ Φ 5 ∗ Φ 6)) := by
  refine (bigSep_univ_eq_bigSepL [0, 1, 2, 3, 4, 5, 6] (by decide) (by decide) Φ).trans ?_
  show iprop(Φ 0 ∗ Φ 1 ∗ Φ 2 ∗ Φ 3 ∗ Φ 4 ∗ Φ 5 ∗ Φ 6) = _
  refine BI.Entails.antisymm ?_ ?_
  · show iprop(Φ 0 ∗ Φ 1 ∗ Φ 2 ∗ Φ 3 ∗ Φ 4 ∗ Φ 5 ∗ Φ 6) ⊢ _
    iintro ⟨H0, H1, H2, H3, H4, H5, H6⟩
    isplitl [H0]; · iexact H0
    isplitl [H1 H2 H3]
    · isplitl [H1]; · iexact H1
      isplitl [H2] <;> iassumption
    isplitl [H4]; · iexact H4
    isplitl [H5] <;> iassumption
  · show _ ⊢ iprop(Φ 0 ∗ Φ 1 ∗ Φ 2 ∗ Φ 3 ∗ Φ 4 ∗ Φ 5 ∗ Φ 6)
    iintro ⟨H0, ⟨H1, H2, H3⟩, H4, H5, H6⟩
    isplitl [H0]; · iexact H0
    isplitl [H1]; · iexact H1
    isplitl [H2]; · iexact H2
    isplitl [H3]; · iexact H3
    isplitl [H4]; · iexact H4
    isplitl [H5] <;> iassumption

omit [FloatOps F] in
theorem bigSep_nine (Φ : Fin 9 → sProp 𝕄) :
    bigSep Finset.univ Φ = iprop((Φ 0 ∗ Φ 1 ∗ Φ 2) ∗ (Φ 3 ∗ Φ 4 ∗ Φ 5) ∗ (Φ 6 ∗ Φ 7 ∗ Φ 8)) := by
  refine (bigSep_univ_eq_bigSepL [0, 1, 2, 3, 4, 5, 6, 7, 8] (by decide) (by decide) Φ).trans ?_
  show iprop(Φ 0 ∗ Φ 1 ∗ Φ 2 ∗ Φ 3 ∗ Φ 4 ∗ Φ 5 ∗ Φ 6 ∗ Φ 7 ∗ Φ 8) = _
  refine BI.Entails.antisymm ?_ ?_
  · show iprop(Φ 0 ∗ Φ 1 ∗ Φ 2 ∗ Φ 3 ∗ Φ 4 ∗ Φ 5 ∗ Φ 6 ∗ Φ 7 ∗ Φ 8) ⊢ _
    iintro ⟨H0, H1, H2, H3, H4, H5, H6, H7, H8⟩
    isplitl [H0 H1 H2]
    · isplitl [H0]; · iexact H0
      isplitl [H1] <;> iassumption
    isplitl [H3 H4 H5]
    · isplitl [H3]; · iexact H3
      isplitl [H4] <;> iassumption
    isplitl [H6]; · iexact H6
    isplitl [H7] <;> iassumption
  · show _ ⊢ iprop(Φ 0 ∗ Φ 1 ∗ Φ 2 ∗ Φ 3 ∗ Φ 4 ∗ Φ 5 ∗ Φ 6 ∗ Φ 7 ∗ Φ 8)
    iintro ⟨⟨H0, H1, H2⟩, ⟨H3, H4, H5⟩, H6, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption

omit [FloatOps F] in
theorem fund_cells : BI.own (EX (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 7 => Φ (kcell (c, k)) := by
    unfold xCells; rw [bigSep_map, bigSep_univ_prod]; rfl
  have hT : bigSep xToks (fun x => (dutyTok EX x.1 x.2.1 x.2.2 : sProp 𝕄)) = bigSep Finset.univ fun c : Dev nD => toks c := by
    unfold xToks; rw [bigSep_map, bigSep_univ_prod]
    exact bigSep_congr fun c _ => by unfold toks; rw [bigSep_nine]; rfl
  iintro HX
  imod (Rounds.fund EX (xRd m ρ) xCells xToks) $$ HX with ⟨Hst, Hr, Hat, Htok⟩
  imodintro
  ihave Hst' := (Entails.of_eq (hX fun g => roundState EX (xRd m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores of a device -/

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
        ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_seven]
  iintro ⟨⟨H1, H2, H3, H4, H5, H6⟩, HB⟩
  isplitl [HB]; · iexact HB
  isplitl [H1 H2 H3]
  · isplitl [H1]; · iexact H1
    isplitl [H2] <;> iassumption
  isplitl [H4]; · iexact H4
  isplitl [H5] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (xRd m ρ) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState EX (xRd m ρ) (kcell (c, k)) 0)
      ⊢ (|={Set.univ}=> bigSep Finset.univ fun k => iprop(∃ κ : ℕ, cellInv EX (xRd m ρ) κ (kcell (c, k))) : sProp 𝕄) from by
        rw [← bigSep_sep']
        exact (bigSep_mono fun k _ => (Rounds.body_intro EX (xRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens to the devices that pay with them -/

omit [FloatOps F] in
theorem toks_around : (bigSep Finset.univ fun c : Dev nD => (toks c : sProp 𝕄)) ⊢ bigSep Finset.univ fun c : Dev nD => payToks c := by
  unfold toks payToks
  simp only [bigSep_sep']
  rw [bigSep_univ_equiv (turn 0) (fun c : Dev nD => (dutyTok EX (barCell c) 0 0 : sProp 𝕄)),
    bigSep_univ_equiv (turn 1) (fun c : Dev nD => (dutyTok EX (barCell c) 0 1 : sProp 𝕄)),
    bigSep_univ_equiv (turn 2) (fun c : Dev nD => (dutyTok EX (barCell c) 0 2 : sProp 𝕄)),
    bigSep_univ_equiv (turn 0) (fun c : Dev nD => (dutyTok EX (recvCell 0 c) 0 0 : sProp 𝕄)),
    bigSep_univ_equiv (turn 1) (fun c : Dev nD => (dutyTok EX (recvCell 1 c) 0 0 : sProp 𝕄)),
    bigSep_univ_equiv (turn 2) (fun c : Dev nD => (dutyTok EX (recvCell 2 c) 0 0 : sProp 𝕄))]
  exact BI.Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (K : Dev nD × Fin 7 → ℕ) (c : Dev nD) : iprop(records m ρ K ∗ (places c ∗ payToks c)) ⊢ G' m ρ c := by
  unfold G' ghost
  iintro ⟨HR, Hp, Ht⟩
  iexists K
  isplitl [HR]; · iexact HR
  isplitl [Hp] <;> iassumption

omit [FloatOps F] in
theorem regroup :
    (bigSep Finset.univ fun c : Dev nD => iprop((bigSep Finset.univ fun k => iprop(∃ κ : ℕ, cellInv EX (xRd m ρ) κ (kcell (c, k))))
          ∗ (bigSep Finset.univ fun k => iprop(atPos EX (kcell (c, k)) 0 ∅ 0 ∗ reached EX (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv EX (xRd m ρ) κ (kcell ck))),
    bigSep_congr (s := Finset.univ) (fun (c : Dev nD) _ => bigSep_sep' Finset.univ (fun k : Fin 7 => (atPos EX (kcell (c, k)) 0 ∅ 0 : sProp 𝕄)) (fun k => reached EX (kcell (c, k)) 0)),
    bigSep_sep', ← bigSep_univ_prod (fun ck : Dev nD × Fin 7 => (reached EX (kcell ck) 0 : sProp 𝕄))]
  iintro ⟨HI, ⟨Hat, #HR⟩, Htok⟩
  ihave HK := (BI.bigSep_exists_pi Finset.univ (fun (ck : Dev nD × Fin 7) (κ : ℕ) => (cellInv EX (xRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos EX (kcell (c, k)) 0 ∅ 0 : sProp 𝕄)) payToks).symm).trans
      (bigSep_mono fun c _ => show _ ⊢ iprop(places c ∗ payToks c) from Entails.of_eq (by unfold places; rw [bigSep_seven])))
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem eq_fr {k : Fin 3} {d c : Dev nD} : Iff (nx k d = c) (d = fr k c) :=
  ⟨fun h => by rw [← h, fr_nx], fun h => by rw [h, nx_fr]⟩

theorem owe_bar (k : Fin 3) (d c : Dev nD) :
    (tallyAt (barCell (nx k d)) () 1 : CellTallies nD τ sig Unit) (barCell c) () = if d = fr k c then 1 else 0 := by
  rw [tallyAt_apply]
  refine if_congr ⟨fun h => eq_fr.mp ?_, fun h => ⟨by rw [eq_fr.mpr h], rfl⟩⟩ rfl rfl
  exact (congrArg (fun g : GSem nD τ sig => g.1.1) h.1).symm
theorem owe_recv (k : Fin 3) (d c : Dev nD) :
    (tallyAt (recvCell k (nx k d)) () N : CellTallies nD τ sig Unit) (recvCell k c) () = if d = fr k c then N else 0 := by
  rw [tallyAt_apply]
  refine if_congr ⟨fun h => eq_fr.mp ?_, fun h => ⟨by rw [eq_fr.mpr h], rfl⟩⟩ rfl rfl
  exact (congrArg (fun g : GSem nD τ sig => g.1.1) h.1).symm
theorem owe_recv_ne (j k : Fin 3) (h : j ≠ k) (d c : Dev nD) :
    (tallyAt (recvCell j d) () N : CellTallies nD τ sig Unit) (recvCell k c) () = 0 := by
  rw [tallyAt_ne_cell (fun e => h (recvS_inj j k (congrArg Prod.snd e).symm)), Finsupp.zero_apply]
theorem owe_bar_recv (k : Fin 3) (d c : Dev nD) :
    (tallyAt (recvCell k d) () N : CellTallies nD τ sig Unit) (barCell c) () = 0 := by
  rw [tallyAt_ne_cell (fun e => recv_ne_bar k (congrArg Prod.snd e).symm), Finsupp.zero_apply]
theorem owe_recv_bar (k : Fin 3) (d c : Dev nD) :
    (tallyAt (barCell d) () 1 : CellTallies nD τ sig Unit) (recvCell k c) () = 0 := by
  rw [tallyAt_ne_cell (fun e => recv_ne_bar k (congrArg Prod.snd e)), Finsupp.zero_apply]

theorem O₀_apply (d : Dev nD) (g : GSem nD τ sig) : O₀ d g () =
    ((((((tallyAt (recvCell 1 (nx 1 d)) () N : CellTallies nD τ sig Unit) g () + (tallyAt (recvCell 2 (nx 2 d)) () N : CellTallies nD τ sig Unit) g ())
      + (tallyAt (recvCell 0 (nx 0 d)) () N : CellTallies nD τ sig Unit) g ()) + (tallyAt (barCell (nx 2 d)) () 1 : CellTallies nD τ sig Unit) g ())
      + (tallyAt (barCell (nx 1 d)) () 1 : CellTallies nD τ sig Unit) g ()) + (tallyAt (barCell (nx 0 d)) () 1 : CellTallies nD τ sig Unit) g ()) := by
  unfold O₀ B₁ B₂ R₀ R₁ R₂
  simp only [Pi.add_apply, Finsupp.add_apply]

theorem owed_bar (d c : Dev nD) : O₀ d (barCell c) () = ((if d = fr 2 c then 1 else 0) + (if d = fr 1 c then 1 else 0)) + (if d = fr 0 c then 1 else 0) := by
  rw [O₀_apply, owe_bar_recv, owe_bar_recv, owe_bar_recv, owe_bar, owe_bar, owe_bar]; omega

theorem owed_recv (k : Fin 3) (d c : Dev nD) : O₀ d (recvCell k c) () = if d = fr k c then N else 0 := by
  rw [O₀_apply, owe_recv_bar, owe_recv_bar, owe_recv_bar, ← owe_recv k d c]
  fin_cases k
  · rw [owe_recv_ne 1 _ (by decide), owe_recv_ne 2 _ (by decide)]; simp only [Nat.add_zero, Nat.zero_add]; rfl
  · rw [owe_recv_ne 2 _ (by decide), owe_recv_ne 0 _ (by decide)]; simp only [Nat.add_zero, Nat.zero_add]; rfl
  · rw [owe_recv_ne 1 _ (by decide), owe_recv_ne 0 _ (by decide)]; simp only [Nat.add_zero, Nat.zero_add]; rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (fr 2 c) fun _ => 1, Finset.sum_ite_eq' Finset.univ (fr 1 c) fun _ => 1, Finset.sum_ite_eq' Finset.univ (fr 0 c) fun _ => 1,
    if_pos (Finset.mem_univ _), if_pos (Finset.mem_univ _), if_pos (Finset.mem_univ _)]

theorem launch_recv (k : Fin 3) (c : Dev nD) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owed_recv k d c, Finset.sum_ite_eq' Finset.univ (fr k c) fun _ => N,
    if_pos (Finset.mem_univ _)]

omit [FloatOps F] in
theorem creds (c : Dev nD) :
    (Pipeline.launchCred O₀ c : sProp 𝕄) ⊢ iprop(cred (tallyAt (barCell c) () 3) ∗ cred (tallyAt (recvCell 0 c) () N) ∗ cred (tallyAt (recvCell 1 c) () N) ∗ cred (tallyAt (recvCell 2 c) () N)) := by
  unfold Pipeline.launchCred
  rw [bigSep_univ_at _ (SemLoc.reg barS), launch_bar]
  refine sep_mono_right ?_
  rw [← launch_recv 0 c, ← launch_recv 1 c, ← launch_recv 2 c]
  rw [bigSep_erase (Finset.mem_erase.mpr ⟨recv_ne_bar 0, Finset.mem_univ _⟩)]
  refine sep_mono_right ?_
  rw [bigSep_erase (Finset.mem_erase.mpr ⟨by decide, Finset.mem_erase.mpr ⟨recv_ne_bar 1, Finset.mem_univ _⟩⟩)]
  refine sep_mono_right ?_
  exact bigSep_elim (Finset.mem_erase.mpr ⟨by decide, Finset.mem_erase.mpr ⟨by decide, Finset.mem_erase.mpr ⟨recv_ne_bar 2, Finset.mem_univ _⟩⟩⟩)

/-! ## The side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, ⟨H1, H2, H3⟩, ⟨H4, H5, H6⟩, HzB⟩
  isplitl [HzB]; · iexact HzB
  isplitl [H1 H2 H3 H4 H5 H6]
  · isplitl [H1]; · iexact H1
    isplitl [H2]; · iexact H2
    isplitl [H3]; · iexact H3
    isplitl [H4]; · iexact H4
    isplitl [H5] <;> iassumption
  iexists (comm m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The final contents of the windows' arrays. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair execution of the program ends, with each window's array as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are as they were. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Exchange

end
-- ==== Proof.KernelIdeal.Value.lean ====
/-
# What the kernel leaves in its result, element by element

The staged arguments are the argument arrays; the result array is the body's result. At exact arithmetic the body's result on
device `c`, at row `i` and column `n`, is `y * logistic y`, where `y` is row `512 c + i` of `x` times column `n` of `w`: four
partial products over 512 columns of `x` each, added in the order in which the kernel consumes them.
-/
module

public import proofs.«01_k».proof.Proof.KernelIdeal.Run
public import Idealize.ShloMosaic.Lib.Layout
public import Idealize.ShloMosaic.Lib.Pipeline.Value
public import Idealize.ShloMosaic.Lib.Pipeline.ValueKit.Geometry
public import Idealize.ShloMosaic.Lib.Pointwise
public import Idealize.ShloMosaic.Lib.ValueIdx
public import Idealize.ShloMosaic.PureOps.Ideal.Laws

@[expose] public section

noncomputable section

namespace Cert.KernelIdeal.Exchange

open Cert.KernelIdeal Cert.KernelIdeal.Gen

open Idealize.ShloMosaic
open Idealize.ShloMosaic.TcCoe
open Idealize.SL Idealize.SL.Sem

/-! ## The arrays -/

section Arrays

variable {F : FTy → Type} [FloatOps F]
variable (m : (ℓ : Loc nD τ sig) → Buf (Elt F) ℓ) (ρ : Dev nD → PrngReg)

theorem xstg_eq (c : Dev nD) : xstg m ρ c = m ((c : Thread nD τ).loc main_arg0) := by
  funext i
  show m ((c : Thread nD τ).loc main_arg0) ((win0_0.rect (0 : Fin 1)).emb i) = _
  congr 1; funext a; apply Fin.ext
  rw [Pipeline.Window.rect_emb_val_of_index_zero win0_0 (0 : Fin 1) a rfl]

theorem wstg_eq (c : Dev nD) : wstg m ρ c = m ((c : Thread nD τ).loc main_arg1) := by
  funext i
  show m ((c : Thread nD τ).loc main_arg1) ((win0_1.rect (0 : Fin 1)).emb i) = _
  congr 1; funext a; apply Fin.ext
  rw [Pipeline.Window.rect_emb_val_of_index_zero win0_1 (0 : Fin 1) a rfl]

/-- The result array ends holding the body's result. -/
theorem finalA_out (c : Dev nD) : finalA m ρ c (2 : Fin 3) = outAt m ρ c :=
  (dats m ρ 0 c).arrAt_eq_of_after_last (2 : Fin 3) t0_0 (by decide +kernel) _ (fun j => rfl)

end Arrays

/-! ## The body's result at exact arithmetic -/

section Exact

variable (m : (ℓ : Loc nD τ sig) → Buf (Elt Ideal) ℓ) (ρ : Dev nD → PrngReg)

theorem lhs_row (j : S512x2048.Idx) (q : dot_S512x512_S512x2048_S512x2048_1_0_0_1_n_n.contr.Idx) :
    (dot_S512x512_S512x2048_S512x2048_1_0_0_1_n_n.lhsIdx j q 0).val = (j 0).val := by
  unfold DotDims.lhsIdx
  rw [dif_neg (by decide), dif_pos (by decide)]
  rfl
theorem rhs_col (j : S512x2048.Idx) (q : dot_S512x512_S512x2048_S512x2048_1_0_0_1_n_n.contr.Idx) :
    (dot_S512x512_S512x2048_S512x2048_1_0_0_1_n_n.rhsIdx j q 1).val = (j 1).val := by
  unfold DotDims.rhsIdx
  rw [dif_neg (by decide), dif_pos (by decide)]
  rfl

/-- A product of 512 by 512 with 512 by 2048, into zeros. -/
abbrev product (a : FVec Ideal S512x512 .bf16) (b : FVec Ideal S512x2048 .bf16) : FVec Ideal S512x2048 .f32 :=
  matmul dot_S512x512_S512x2048_S512x2048_1_0_0_1_n_n none a b (constant S512x2048 .f32 0x00000000#32)
/-- The block received in slot `k`, as a matrix. -/
abbrev farM (k : Fin 3) (c : Dev nD) : FVec Ideal S512x512 .bf16 := shapeCast S512x512 (farX m ρ k c) shapeCasts_S1x512x512_S512x512

/-- It, at an index. -/
theorem product_apply (a : FVec Ideal S512x512 .bf16) (b : FVec Ideal S512x2048 .bf16) (j : S512x2048.Idx) :
    product a b j
      = ∑ k : Fin 512, a (ix2 (n0 := 512) (n1 := 512) (j 0) k) * b (ix2 (n0 := 512) (n1 := 2048) k (j 1)) := by
  refine (Ideal.matmul_constant_zero_apply _ _ a b j).trans ?_
  rw [← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  congr 2
  · funext r; apply Fin.ext
    match r with
    | ⟨0, _⟩ => exact lhs_row _ _
    | ⟨1, _⟩ => exact (dot_S512x512_S512x2048_S512x2048_1_0_0_1_n_n.lhsIdx_val_of_single rfl _ _).trans hk
  · funext r; apply Fin.ext
    match r with
    | ⟨0, _⟩ => exact (dot_S512x512_S512x2048_S512x2048_1_0_0_1_n_n.rhsIdx_val_of_single rfl _ _).trans hk
    | ⟨1, _⟩ => exact rhs_col _ _

/-- Device `b`'s block of `x`, and device `c`'s copy of `w`. -/
abbrev xOf (b : Dev nD) : S2048x512.Idx → EReal := m ((b : Thread nD τ).loc main_arg0)
abbrev wOf (c : Dev nD) : S2048x2048.Idx → EReal := m ((c : Thread nD τ).loc main_arg1)

theorem off2_eq : ∀ c : Dev nD, k0_off2 c = ![512 * c.val, 0] := by decide +kernel
theorem off3_eq : ∀ c : Dev nD, k0_off3 c = ![512 * c.val, 0] := by decide +kernel

theorem ownX_apply (c : Dev nD) (i q : Fin 512) :
    ownX m ρ c (ix2 (n0 := 512) (n1 := 512) i q) = xOf m c (ix2 (n0 := 2048) (n1 := 512) ⟨512 * c.val + i.val, row_lt c i⟩ q) := by
  unfold ownX
  rw [xstg_eq]
  show xOf m c ((Rect.unit (s := S2048x512) (k0_off2 c) S512x512.size (k0_off2_inb c)).emb (ix2 (n0 := 512) (n1 := 512) i q)) = _
  congr 1; funext a; apply Fin.ext
  match a with
  | ⟨0, _⟩ => show k0_off2 c 0 + 1 * i.val = _; rw [off2_eq, Nat.one_mul]; rfl
  | ⟨1, _⟩ => show k0_off2 c 1 + 1 * q.val = _; rw [off2_eq, Nat.one_mul]; exact Nat.zero_add _

theorem ownW_apply (c : Dev nD) (q : Fin 512) (n : Fin 2048) :
    ownW m ρ c (ix2 (n0 := 512) (n1 := 2048) q n) = wOf m c (ix2 (n0 := 2048) (n1 := 2048) ⟨512 * c.val + q.val, row_lt c q⟩ n) := by
  unfold ownW
  rw [wstg_eq]
  show wOf m c ((Rect.unit (s := S2048x2048) (k0_off3 c) S512x2048.size (k0_off3_inb c)).emb (ix2 (n0 := 512) (n1 := 2048) q n)) = _
  congr 1; funext a; apply Fin.ext
  match a with
  | ⟨0, _⟩ => show k0_off3 c 0 + 1 * q.val = _; rw [off3_eq, Nat.one_mul]; rfl
  | ⟨1, _⟩ => show k0_off3 c 1 + 1 * n.val = _; rw [off3_eq, Nat.one_mul]; exact Nat.zero_add _

theorem farW_apply (k : Fin 3) (c : Dev nD) (q : Fin 512) (n : Fin 2048) :
    farW m ρ k c (ix2 (n0 := 512) (n1 := 2048) q n)
      = wOf m c (ix2 (n0 := 2048) (n1 := 2048) ⟨512 * (fr k c).val + q.val, row_lt (fr k c) q⟩ n) := by
  unfold farW
  rw [wstg_eq]
  show wOf m c ((Rect.unit (s := S2048x2048) (k0_off4 c (BitVec.ofNat 32 (1 + k.val))) S512x2048.size (k0_off4_inb c k)).emb
    (ix2 (n0 := 512) (n1 := 2048) q n)) = _
  congr 1; funext a; apply Fin.ext
  match a with
  | ⟨0, _⟩ => show k0_off4 c (BitVec.ofNat 32 (1 + k.val)) 0 + 1 * q.val = _; rw [off4_eq, Nat.one_mul]; rfl
  | ⟨1, _⟩ => show k0_off4 c (BitVec.ofNat 32 (1 + k.val)) 1 + 1 * n.val = _; rw [off4_eq, Nat.one_mul]; exact Nat.zero_add _

theorem farX_apply (k : Fin 3) (c : Dev nD) (i q : Fin 512) :
    shapeCast S512x512 (farX m ρ k c) shapeCasts_S1x512x512_S512x512 (ix2 (n0 := 512) (n1 := 512) i q)
      = xOf m (fr k c) (ix2 (n0 := 2048) (n1 := 512) ⟨512 * c.val + i.val, row_lt c i⟩ q) := by
  refine (shapeCast_dropUnit_apply ![512, 512] (farX m ρ k c) shapeCasts_S1x512x512_S512x512 (ix2 (n0 := 512) (n1 := 512) i q)).trans ?_
  show comm m ρ c ((slotR k).emb (Fin.cons ⟨0, Nat.one_pos⟩ (ix2 (n0 := 512) (n1 := 512) i q))) = _
  have h0 : ((slotR k).emb (Fin.cons ⟨0, Nat.one_pos⟩ (ix2 (n0 := 512) (n1 := 512) i q)) : S3x512x512.Idx) 0 = k :=
    Fin.ext (by show k.val + 1 * 0 = k.val; omega)
  unfold comm
  rw [h0, xstg_eq]
  show xOf m (fr k c) _ = _
  congr 1; funext a; apply Fin.ext
  match a with
  | ⟨0, _⟩ => show 512 * c.val + (0 + 1 * i.val) = 512 * c.val + i.val; omega
  | ⟨1, _⟩ => show 0 + 1 * q.val = q.val; omega

/-- The partial product of row `512 c + i` and column `n` that device `b`'s columns of `x` contribute. -/
def part (c b : Dev nD) (j : S512x2048.Idx) : EReal :=
  ∑ k : Fin 512, xOf m b (ix2 (n0 := 2048) (n1 := 512) ⟨512 * c.val + (j 0).val, row_lt c (j 0)⟩ k)
    * wOf m c (ix2 (n0 := 2048) (n1 := 2048) ⟨512 * b.val + k.val, row_lt b k⟩ (j 1))

theorem own_part (c : Dev nD) (j : S512x2048.Idx) :
    (∑ q : Fin 512, ownX m ρ c (ix2 (n0 := 512) (n1 := 512) (j 0) q) * ownW m ρ c (ix2 (n0 := 512) (n1 := 2048) q (j 1))) = part m c c j :=
  Finset.sum_congr rfl fun q _ => congrArg₂ (fun a b : EReal => a * b) (ownX_apply m ρ c (j 0) q) (ownW_apply m ρ c q (j 1))

theorem far_part (k : Fin 3) (c : Dev nD) (j : S512x2048.Idx) :
    (∑ q : Fin 512, shapeCast S512x512 (farX m ρ k c) shapeCasts_S1x512x512_S512x512 (ix2 (n0 := 512) (n1 := 512) (j 0) q)
      * farW m ρ k c (ix2 (n0 := 512) (n1 := 2048) q (j 1))) = part m c (fr k c) j :=
  Finset.sum_congr rfl fun q _ => congrArg₂ (fun a b : EReal => a * b) (farX_apply m ρ k c (j 0) q) (farW_apply m ρ k c q (j 1))

/-- The four partial products in the order in which the kernel adds them. -/
def total (c : Dev nD) (j : S512x2048.Idx) : EReal :=
  part m c c j + part m c (fr 0 c) j + part m c (fr 2 c) j + part m c (fr 1 c) j

theorem outAt_apply (c : Dev nD) (j : S512x2048.Idx) :
    outAt m ρ c j = total m c j * Ideal.logistic (total m c j) := by
  have h1 := (product_apply (ownX m ρ c) (ownW m ρ c) j).trans (own_part m ρ c j)
  have h2 := fun k => (product_apply (farM m ρ k c) (farW m ρ k c) j).trans (far_part m ρ k c j)
  have e : outAt m ρ c j = (fun y : EReal => y * Ideal.logistic y)
      ((product (ownX m ρ c) (ownW m ρ c) j : EReal) + product (farM m ρ 0 c) (farW m ρ 0 c) j
        + product (farM m ρ 2 c) (farW m ρ 2 c) j + product (farM m ρ 1 c) (farW m ρ 1 c) j) := by
    unfold outAt k0_pay4 k0_pay3 k0_pay2 k0_pay1
    simp only [shapeCast_self]
    rfl
  rw [e, h1, h2 0, h2 2, h2 1]
  rfl

/-! ## Against the whole product -/

variable (X W : S2048x2048.Idx → EReal)

/-- Row `512 c + i` of `X` times column `n` of `W`. -/
def whole (c : Dev nD) (j : S512x2048.Idx) : EReal :=
  ∑ k : Fin 2048, X (ix2 (n0 := 2048) (n1 := 2048) ⟨512 * c.val + (j 0).val, row_lt c (j 0)⟩ k) * W (ix2 (n0 := 2048) (n1 := 2048) k (j 1))

/-- A sum of 2048 terms is the sum of its four runs of 512. -/
theorem sum_runs (f : Fin 2048 → EReal) : (∑ k : Fin 2048, f k) = ∑ b : Dev nD, ∑ k : Fin 512, f ⟨512 * b.val + k.val, row_lt b k⟩ := by
  rw [← Fintype.sum_prod_type' (fun (b : Dev nD) (k : Fin 512) => f ⟨512 * b.val + k.val, row_lt b k⟩)]
  refine (Fintype.sum_equiv (finProdFinEquiv (m := 4) (n := 512)) _ _ fun p => ?_).symm
  congr 1
  apply Fin.ext
  show 512 * p.1.val + p.2.val = p.2.val + 512 * p.1.val
  omega

/-- The four devices, starting from any one, in the kernel's order. -/
theorem sum_order (c : Dev nD) (g : Dev nD → EReal) : g c + g (fr 0 c) + g (fr 2 c) + g (fr 1 c) = ∑ b : Dev nD, g b := by
  rw [show (∑ b : Dev nD, g b) = g 0 + g 1 + g 2 + g 3 from Fin.sum_univ_four g]
  match c with
  | 0 => show g 0 + g 3 + g 1 + g 2 = _; ac_rfl
  | 1 => show g 1 + g 0 + g 2 + g 3 = _; ac_rfl
  | 2 => show g 2 + g 1 + g 3 + g 0 = _; ac_rfl
  | 3 => show g 3 + g 2 + g 0 + g 1 = _; ac_rfl

theorem total_eq (hx : ∀ b, xOf m b = Layout.block ⟨2, ![2048, 512]⟩ ⟨2, ![2048, 2048]⟩ 1 4 b X) (c : Dev nD) (hw : wOf m c = W)
    (j : S512x2048.Idx) : total m c j = whole X W c j := by
  unfold total whole
  rw [sum_order c fun b => part m c b j, sum_runs]
  refine Finset.sum_congr rfl fun b _ => Finset.sum_congr rfl fun k _ => ?_
  rw [hx b, hw, Layout.block_apply]
  congr 2
  funext a; apply Fin.ext
  match a with
  | ⟨0, _⟩ => rfl
  | ⟨1, _⟩ => show b.val * 512 + k.val = 512 * b.val + k.val; omega

end Exact

end Cert.KernelIdeal.Exchange

end
-- ==== Proof.KernelIdeal.Match.lean ====
/-
# The kernel's result against the two reference programs, at exact arithmetic

Element `(512 c + i, n)` of the whole result is device `c`'s element `(i, n)`. There the kernel has `y * logistic y` and the plain
silu has `y / (1 + exp (-y))`, with the same `y`; the two agree at every extended real. The reference that clips its exponent
to ±60 agrees where the clip does nothing, which the precondition gives: each of the four partial products is at most 15 in
absolute value, so `y` is at most 60.
-/
module

public import proofs.«01_k».proof.Defs
public import proofs.«01_k».proof.Proof.KernelIdeal.Value
public import proofs.«01_k».proof.Proof.Gen.SiluIdeal.Read
public import proofs.«01_k».proof.Proof.Gen.ReferenceIdeal.Read
public import proofs.«01_k».proof.Proof.Gen.Pre_within_clip_KernelIdeal

@[expose] public section

noncomputable section

namespace Cert.KernelIdeal.Exchange

open Cert.KernelIdeal Cert.KernelIdeal.Gen

open Idealize.ShloMosaic
open Idealize.ShloMosaic.TcCoe
open Idealize.SL.Sem

/-! ## Facts about extended reals -/

theorem exp_nonneg (x : EReal) : 0 ≤ Ideal.exp x := by
  induction x using EReal.rec with
  | bot => exact le_rfl
  | coe r => exact EReal.coe_nonneg.2 (Real.exp_pos r).le
  | top => exact le_top

theorem one_add_exp_ne (x : EReal) : 1 + Ideal.exp x ≠ 0 :=
  (lt_of_lt_of_le one_pos (by simpa using add_le_add_right (exp_nonneg x) 1)).ne'

/-- The two ways of writing silu agree everywhere. -/
theorem silu_eq (y : EReal) : Ideal.div y (1 + Ideal.exp (-y)) = y * Ideal.logistic y := by
  unfold Ideal.logistic Ideal.div
  rw [if_neg (one_add_exp_ne _), if_neg (one_add_exp_ne _), one_mul]

theorem lit_one : (FloatOps.ofBits .f32 0x3F800000#32 : Ideal .f32) = (1 : EReal) := by
  show Ideal.ofBits .f32 0x3F800000#32 = ((1 : ℝ) : EReal)
  simp [Ideal.ofBits, Ideal.ieee, -EReal.coe_mul]; norm_num
theorem lit_fifteen : (FloatOps.ofBits .f32 0x41700000#32 : Ideal .f32) = ((15 : ℝ) : EReal) := by
  show Ideal.ofBits .f32 0x41700000#32 = _
  simp [Ideal.ofBits, Ideal.ieee, -EReal.coe_mul]; norm_num
theorem lit_sixty : (FloatOps.ofBits .f32 0x42700000#32 : Ideal .f32) = ((60 : ℝ) : EReal) := by
  show Ideal.ofBits .f32 0x42700000#32 = _
  simp [Ideal.ofBits, Ideal.ieee, -EReal.coe_mul]; norm_num
theorem lit_neg_sixty : (FloatOps.ofBits .f32 0xC2700000#32 : Ideal .f32) = ((-60 : ℝ) : EReal) := by
  show Ideal.ofBits .f32 0xC2700000#32 = _
  simp [Ideal.ofBits, Ideal.ieee, -EReal.coe_mul]; norm_num

/-! ## The references at an element -/

section Refs
variable (X W : S2048x2048.Idx → EReal) (c : Dev nD) (j : S512x2048.Idx)

/-- Where device `c`'s element `j` lies in the whole result. -/
abbrev place : S2048x2048.Idx := ix2 (n0 := 2048) (n1 := 2048) ⟨512 * c.val + (j 0).val, row_lt c (j 0)⟩ (j 1)

/-- A block of rows of a whole array, at an element. -/
theorem block_rows (h : Layout.Tiles (⟨2, ![512, 2048]⟩ : Shape) ⟨2, ![2048, 2048]⟩ 0 4) (v : S2048x2048.Idx → EReal) :
    Layout.block ⟨2, ![512, 2048]⟩ ⟨2, ![2048, 2048]⟩ 0 4 c v h j = v (place c j) := by
  rw [Layout.block_apply]
  congr 1
  funext a; apply Fin.ext
  match a with
  | ⟨0, _⟩ => show c.val * 512 + (j 0).val = 512 * c.val + (j 0).val; omega
  | ⟨1, _⟩ => rfl

theorem silu_dot : Cert.SiluIdeal.Read.val_main_v0 (F := Ideal) X W (place c j) = whole X W c j :=
  (Cert.SiluIdeal.Read.val_main_v0_apply X W (place c j)).trans (Finset.sum_congr rfl fun k _ => by
    congr 2 <;> (funext a; match a with | ⟨0, _⟩ => rfl | ⟨1, _⟩ => rfl))

theorem silu_at : Cert.SiluIdeal.Read.val_main_v5 (F := Ideal) X W (place c j) = whole X W c j * Ideal.logistic (whole X W c j) := by
  rw [Cert.SiluIdeal.Read.val_main_v5_apply, Cert.SiluIdeal.Read.val_main_v4_apply, Cert.SiluIdeal.Read.val_main_v3_apply,
    Cert.SiluIdeal.Read.val_main_cst_apply, Cert.SiluIdeal.Read.val_main_v2_apply, Cert.SiluIdeal.Read.val_main_v1_apply, silu_dot, lit_one]
  exact silu_eq _

theorem ref_dot : Cert.ReferenceIdeal.Read.val_main_v0 (F := Ideal) X W (place c j) = whole X W c j :=
  (Cert.ReferenceIdeal.Read.val_main_v0_apply X W (place c j)).trans (Finset.sum_congr rfl fun k _ => by
    congr 2 <;> (funext a; match a with | ⟨0, _⟩ => rfl | ⟨1, _⟩ => rfl))

theorem ref_at (hlo : ((-60 : ℝ) : EReal) ≤ whole X W c j) (hhi : whole X W c j ≤ ((60 : ℝ) : EReal)) :
    Cert.ReferenceIdeal.Read.val_main_v6 (F := Ideal) X W (place c j) = whole X W c j * Ideal.logistic (whole X W c j) := by
  rw [Cert.ReferenceIdeal.Read.val_main_v6_apply, Cert.ReferenceIdeal.Read.val_main_v5_apply, Cert.ReferenceIdeal.Read.val_main_v4_apply,
    Cert.ReferenceIdeal.Read.val_main_cst_1_apply, Cert.ReferenceIdeal.Read.val_main_v3_apply, Cert.ReferenceIdeal.Read.val_main_v2_apply,
    Cert.ReferenceIdeal.Read.val_main_v1_apply, Cert.ReferenceIdeal.Read.val_main_call0_v4_apply,
    Cert.ReferenceIdeal.Read.val_main_call0_v3_apply, Cert.ReferenceIdeal.Read.val_main_cst_0_apply,
    Cert.ReferenceIdeal.Read.val_main_call0_v2_apply, Cert.ReferenceIdeal.Read.val_main_call0_v1_apply,
    Cert.ReferenceIdeal.Read.val_main_call0_v0_apply, Cert.ReferenceIdeal.Read.val_main_cst_apply, ref_dot, lit_one, lit_sixty, lit_neg_sixty]
  show Ideal.div _ (1 + Ideal.exp (-(min ((60 : ℝ) : EReal) (max ((-60 : ℝ) : EReal) (whole X W c j))))) = _
  rw [max_eq_right hlo, min_eq_right hhi]
  exact silu_eq _
end Refs

/-! ## The kernel's run -/

variable (m : (ℓ : Loc nD τ sig) → Buf (Elt Ideal) ℓ) (ρ : Dev nD → PrngReg)

theorem run_out : θ_run (defs (F := Ideal)) (onTc (τ := τ) (main (F := Ideal))) ⟨m, fun _ => 0, ρ⟩ (fun r => ∀ c : Dev nD,
    r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨(h.1 c (2 : Fin 3)).trans (finalA_out m ρ c), (h.1 c (0 : Fin 3)).trans (finalA_x m ρ c),
    (h.1 c (1 : Fin 3)).trans (finalA_w m ρ c)⟩) (run_main m ρ)

/-- The element device `c` computes, from the whole arrays. -/
theorem outAt_whole (X W : S2048x2048.Idx → EReal)
    (hx : ∀ b, xOf m b = Layout.block ⟨2, ![2048, 512]⟩ ⟨2, ![2048, 2048]⟩ 1 4 b X) (hw : ∀ c, wOf m c = W) (c : Dev nD) (j : S512x2048.Idx) :
    outAt m ρ c j = whole X W c j * Ideal.logistic (whole X W c j) := by
  rw [outAt_apply, total_eq m X W hx c (hw c)]

/-! ## The precondition -/

section Pre
open Cert.Pre_within_clip_KernelIdeal (dot_S2048x512_S512x2048_S2048x2048_1_0_0_1_n_n)

theorem bound_row (i : S2048x2048.Idx) (q : dot_S2048x512_S512x2048_S2048x2048_1_0_0_1_n_n.contr.Idx) :
    (dot_S2048x512_S512x2048_S2048x2048_1_0_0_1_n_n.lhsIdx i q 0).val = (i 0).val := by
  unfold DotDims.lhsIdx
  rw [dif_neg (by decide), dif_pos (by decide)]
  rfl
theorem bound_col (i : S2048x2048.Idx) (q : dot_S2048x512_S512x2048_S2048x2048_1_0_0_1_n_n.contr.Idx) :
    (dot_S2048x512_S512x2048_S2048x2048_1_0_0_1_n_n.rhsIdx i q 1).val = (i 1).val := by
  unfold DotDims.rhsIdx
  rw [dif_neg (by decide), dif_pos (by decide)]
  rfl

/-- The product the precondition bounds. -/
abbrev bounded (a : FVec Ideal S2048x512 .bf16) (b : FVec Ideal S512x2048 .bf16) : FVec Ideal S2048x2048 .f32 :=
  Host.dotGeneral dot_S2048x512_S512x2048_S2048x2048_1_0_0_1_n_n none a b

/-- It, at an element. -/
theorem bounded_apply (a : FVec Ideal S2048x512 .bf16) (b : FVec Ideal S512x2048 .bf16) (i : S2048x2048.Idx) :
    bounded a b i = ∑ k : Fin 512, a (ix2 (n0 := 2048) (n1 := 512) (i 0) k) * b (ix2 (n0 := 512) (n1 := 2048) k (i 1)) := by
  unfold bounded
  simp only [Host.dotGeneral]
  rw [Ideal.dotGeneral_apply, ← Equiv.sum_comp (ValueIdx.contrEquiv1 dot_S2048x512_S512x2048_S2048x2048_1_0_0_1_n_n 512 rfl rfl).symm]
  refine Finset.sum_congr rfl fun k _ => ?_
  have hk := ValueIdx.contrEquiv1_symm_val dot_S2048x512_S512x2048_S2048x2048_1_0_0_1_n_n 512 rfl rfl k
  congr 2
  · funext r; apply Fin.ext
    match r with
    | ⟨0, _⟩ => exact bound_row _ _
    | ⟨1, _⟩ => exact (dot_S2048x512_S512x2048_S2048x2048_1_0_0_1_n_n.lhsIdx_val_of_single rfl _ _).trans hk
  · funext r; apply Fin.ext
    match r with
    | ⟨0, _⟩ => exact (dot_S2048x512_S512x2048_S2048x2048_1_0_0_1_n_n.rhsIdx_val_of_single rfl _ _).trans hk
    | ⟨1, _⟩ => exact bound_col _ _

/-- What one comparison of the precondition says of the element it compares. -/
theorem bound_of_bit (y : FVec Ideal S2048x2048 .f32) (z : FVec Ideal S2048x2048 .f32)
    (hz : ∀ i, z i = (FloatOps.ofBits .f32 0x41700000#32 : Ideal .f32)) (h : cmpf .ole (Host.absf y) z = fun _ => 1#1) (i : S2048x2048.Idx) :
    ((-15 : ℝ) : EReal) ≤ y i ∧ (y i : EReal) ≤ ((15 : ℝ) : EReal) := by
  have h1 : BitVec.ofBool (decide (max (y i : EReal) (-(y i : EReal)) ≤ z i)) = 1#1 := congrFun h i
  have h2 : max (y i : EReal) (-(y i : EReal)) ≤ ((15 : ℝ) : EReal) := by
    rw [hz i, lit_fifteen] at h1
    by_contra hn
    rw [decide_eq_false hn] at h1
    exact absurd h1 (by decide)
  refine ⟨?_, (le_max_left _ _).trans h2⟩
  have h3 := EReal.neg_le_neg_iff.2 ((le_max_right _ _).trans h2)
  rw [neg_neg] at h3
  rwa [EReal.coe_neg]

/-- The rows of `w` a comparison takes: those numbered from `512 b`. -/
theorem slice_apply (W : FVec Ideal S2048x2048 .bf16) (b : Dev nD) (o : Fin 2 → ℕ) (ho : o = ![512 * b.val, 0]) (h : S2048x2048.Slices o S512x2048)
    (k : Fin 512) (n : Fin 2048) :
    extractStridedSlice S512x2048 o W h (ix2 (n0 := 512) (n1 := 2048) k n) = W (ix2 (n0 := 2048) (n1 := 2048) ⟨512 * b.val + k.val, row_lt b k⟩ n) := by
  subst ho
  refine extractStridedSlice_apply _ _ h _ _ fun a => ?_
  match a with
  | ⟨0, _⟩ => rfl
  | ⟨1, _⟩ => exact (Nat.zero_add _).symm

/-- What one comparison, at the rows of `w` from `512 b`, says of device `c`'s partial product `b`. -/
theorem part_of_bit (c b : Dev nD) (o : Fin 2 → ℕ) (ho : o = ![512 * b.val, 0]) (h : S2048x2048.Slices o S512x2048)
    (hw : wOf m b = wOf m c) (z : FVec Ideal S2048x2048 .f32) (hz : ∀ i, z i = (FloatOps.ofBits .f32 0x41700000#32 : Ideal .f32))
    (hb : cmpf .ole (Host.absf (bounded (m ((b : Thread nD τ).loc main_arg0)) (extractStridedSlice S512x2048 o (m ((b : Thread nD τ).loc main_arg1)) h))) z
      = fun _ => 1#1) (j : S512x2048.Idx) :
    ((-15 : ℝ) : EReal) ≤ part m c b j ∧ part m c b j ≤ ((15 : ℝ) : EReal) := by
  have e : bounded (m ((b : Thread nD τ).loc main_arg0)) (extractStridedSlice S512x2048 o (m ((b : Thread nD τ).loc main_arg1)) h) (place c j)
      = part m c b j := by
    rw [bounded_apply]
    unfold part
    refine Finset.sum_congr rfl fun k _ => ?_
    rw [← hw]
    exact congrArg (fun v : EReal => xOf m b (ix2 (n0 := 2048) (n1 := 512) ⟨512 * c.val + (j 0).val, row_lt c (j 0)⟩ k) * v)
      (slice_apply (m ((b : Thread nD τ).loc main_arg1)) b o ho h k (j 1))
  have := bound_of_bit _ z hz hb (place c j)
  rwa [e] at this

/-- Under the precondition each partial product is between -15 and 15. -/
theorem part_bound (hw : ∀ b c, wOf m b = wOf m c) (hp : Cert.Pre_KernelIdeal_within_clip_KernelIdeal m) (c b : Dev nD) (j : S512x2048.Idx) :
    ((-15 : ℝ) : EReal) ≤ part m c b j ∧ part m c b j ≤ ((15 : ℝ) : EReal) := by
  obtain ⟨h0, h1, h2, h3⟩ := hp b
  match b, h0, h1, h2, h3 with
  | 0, h0, h1, h2, h3 => exact part_of_bit m c 0 _ rfl _ (hw _ _) _ (fun _ => rfl) h0 j
  | 1, h0, h1, h2, h3 => exact part_of_bit m c 1 _ rfl _ (hw _ _) _ (fun _ => rfl) h1 j
  | 2, h0, h1, h2, h3 => exact part_of_bit m c 2 _ rfl _ (hw _ _) _ (fun _ => rfl) h2 j
  | 3, h0, h1, h2, h3 => exact part_of_bit m c 3 _ rfl _ (hw _ _) _ (fun _ => rfl) h3 j

/-- So their sum is between -60 and 60. -/
theorem total_bound (hw : ∀ b c, wOf m b = wOf m c) (hp : Cert.Pre_KernelIdeal_within_clip_KernelIdeal m) (c : Dev nD) (j : S512x2048.Idx) :
    ((-60 : ℝ) : EReal) ≤ total m c j ∧ total m c j ≤ ((60 : ℝ) : EReal) := by
  have hb := fun b => part_bound m hw hp c b j
  have e1 : ((-60 : ℝ) : EReal) = ((-15 : ℝ) : EReal) + ((-15 : ℝ) : EReal) + ((-15 : ℝ) : EReal) + ((-15 : ℝ) : EReal) := by
    rw [← EReal.coe_add, ← EReal.coe_add, ← EReal.coe_add]; norm_num
  have e2 : ((60 : ℝ) : EReal) = ((15 : ℝ) : EReal) + ((15 : ℝ) : EReal) + ((15 : ℝ) : EReal) + ((15 : ℝ) : EReal) := by
    rw [← EReal.coe_add, ← EReal.coe_add, ← EReal.coe_add]; norm_num
  rw [e1, e2]
  exact ⟨add_le_add (add_le_add (add_le_add (hb _).1 (hb _).1) (hb _).1) (hb _).1,
    add_le_add (add_le_add (add_le_add (hb _).2 (hb _).2) (hb _).2) (hb _).2⟩
end Pre

end Cert.KernelIdeal.Exchange
-- ==== Proof.lean ====
/-
# The certificate

Six frames, the two programs being one text, and two value claims: the kernel on four devices computes silu of the product,
whatever its arguments, and it computes the reference with the clipped exponent where the clip does nothing.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.SiluIdeal
public import proofs.«01_k».proof.Proof.Gen.SiluIdeal.Run
public import proofs.«01_k».proof.Proof.Gen.SiluIdeal.Read
public import proofs.«01_k».proof.Proof.Gen.Pre_within_clip_KernelIdeal
public import proofs.«01_k».proof.Proof.Gen.Pre_within_clip_ReferenceIdeal
public import proofs.«01_k».proof.Proof.Kernel.Run
public import proofs.«01_k».proof.Proof.KernelIdeal.Run
public import proofs.«01_k».proof.Proof.KernelIdeal.Match
public import Idealize.ShloMosaic.Adequacy
public import Idealize.ShloMosaic.Init

@[expose] public section

noncomputable section

namespace Cert.Proof

open Idealize.ShloMosaic Idealize.ShloMosaic.TcCoe Idealize.SL.Sem

/-- The kernel ends with its arguments unchanged and every counter at zero. -/
theorem frame_p : Cert.quiescent_Kernel := fun m ρ _ =>
  (θ_run _ _ _).mono (fun _ h => ⟨fun c => ⟨(h.1 c (0 : Fin 3)).trans (Cert.Kernel.Exchange.finalA_x m ρ c),
    (h.1 c (1 : Fin 3)).trans (Cert.Kernel.Exchange.finalA_w m ρ c)⟩, h.2⟩) (Cert.Kernel.Exchange.run_main m ρ)

/-- So does the kernel over the extended reals. -/
theorem frame_pi : Cert.quiescent_KernelIdeal := fun m ρ _ =>
  (θ_run _ _ _).mono (fun _ h => ⟨fun c => ⟨(h.1 c (0 : Fin 3)).trans (Cert.KernelIdeal.Exchange.finalA_x m ρ c),
    (h.1 c (1 : Fin 3)).trans (Cert.KernelIdeal.Exchange.finalA_w m ρ c)⟩, h.2⟩) (Cert.KernelIdeal.Exchange.run_main m ρ)

/-- The plain silu has no semaphore, and no operation of it writes an argument. -/
theorem frame_si : Cert.quiescent_SiluIdeal := fun m ρ _ =>
  (θ_run _ _ _).mono (fun r h => ⟨fun c => (h c).2, sem_eq_zero_of_no_sems (by decide) r.2⟩) (Cert.SiluIdeal.Value.run (F := Ideal) m ρ)

/-- Nor has the reference. -/
theorem frame_ri : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- Each device's result is its block of rows of the plain silu of the whole product. -/
theorem silu : Cert.algebraic_KernelIdeal_SiluIdeal := by
  intro m ρ m' ρ' _ hagree
  refine ⟨Cert.SiluIdeal.Read.val_main_v5 (F := Ideal) (m' (((0 : Dev Cert.SiluIdeal.nD).tc : Thread _ Cert.SiluIdeal.τ).loc Cert.SiluIdeal.main_arg0))
    (m' (((0 : Dev Cert.SiluIdeal.nD).tc : Thread _ Cert.SiluIdeal.τ).loc Cert.SiluIdeal.main_arg1)), ?_, ?_⟩
  · refine (θ_run _ _ _).mono (fun r h c => ⟨(h c).1.trans (funext fun j => ?_), (h c).2⟩) (Cert.KernelIdeal.Exchange.run_out m ρ)
    exact (Cert.KernelIdeal.Exchange.outAt_whole m ρ _ _ (fun b => (hagree b).1) (fun b => (hagree b).2) c j).trans
      ((Cert.KernelIdeal.Exchange.block_rows c j _ _).trans (Cert.KernelIdeal.Exchange.silu_at _ _ c j)).symm
  · exact (θ_run _ _ _).mono (fun r h => ⟨(h 0).1.trans (Cert.SiluIdeal.Read.val_main_v5_eq _ _), (h 0).2⟩) (Cert.SiluIdeal.Value.run (F := Ideal) m' ρ')

/-- Where no partial product exceeds 15 in absolute value, it is the block of the reference that clips. -/
theorem clipped : Cert.algebraic_KernelIdeal_ReferenceIdeal_pre_within_clip_KernelIdeal := by
  intro m ρ m' ρ' hp hagree
  refine ⟨Cert.ReferenceIdeal.Read.val_main_v6 (F := Ideal) (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run _ _ _).mono (fun r h c => ⟨(h c).1.trans (funext fun j => ?_), (h c).2⟩) (Cert.KernelIdeal.Exchange.run_out m ρ)
    have hb := Cert.KernelIdeal.Exchange.total_bound m (fun b c => (hagree b).2.trans (hagree c).2.symm) hp c j
    rw [Cert.KernelIdeal.Exchange.total_eq m _ _ (fun b => (hagree b).1) c (hagree c).2 j] at hb
    exact (Cert.KernelIdeal.Exchange.outAt_whole m ρ _ _ (fun b => (hagree b).1) (fun b => (hagree b).2) c j).trans
      ((Cert.KernelIdeal.Exchange.block_rows c j _ _).trans (Cert.KernelIdeal.Exchange.ref_at _ _ c j hb.1 hb.2)).symm
  · exact (θ_run _ _ _).mono (fun r h => ⟨(h 0).1.trans (Cert.ReferenceIdeal.Read.val_main_v6_eq _ _), (h 0).2⟩) (Cert.ReferenceIdeal.Value.run (F := Ideal) m' ρ')

theorem claim : Cert.Claim :=
  ⟨Cert.Kernel.Gen.facts, Cert.KernelIdeal.Gen.facts, Cert.SiluIdeal.Gen.facts, Cert.ReferenceIdeal.Gen.facts,
    Cert.Pre_within_clip_KernelIdeal.Gen.facts, Cert.Pre_within_clip_ReferenceIdeal.Gen.facts,
    frame_p, frame_pi, fun m ρ _ => frame_pi m ρ trivial, frame_si, frame_ri, fun m ρ _ => frame_ri m ρ trivial, trivial, silu, clipped⟩

end Cert.Proof

end
